-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unpadded_finite [hPre_unpadded_finite : Cert.Pre_unpadded_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unpadded_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unpadded_finite [hPre_unpadded_finite : Cert.Pre_unpadded_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unpadded_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_unpadded_finite [hKernelIdeal : Cert.KernelIdeal.Facts] [hPre_unpadded_finite : Cert.Pre_unpadded_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unpadded_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_unpadded_finite [hReferenceIdeal : Cert.ReferenceIdeal.Facts] [hPre_unpadded_finite : Cert.Pre_unpadded_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unpadded_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_unpadded_finite [hKernelIdeal : Cert.KernelIdeal.Facts] [hReferenceIdeal : Cert.ReferenceIdeal.Facts] [hPre_unpadded_finite : Cert.Pre_unpadded_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unpadded_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_unpadded_finite : Cert.Pre_unpadded_finite.Facts),
    quiescent_Kernel (hKernel := hKernel)
    ∧ quiescent_KernelIdeal (hKernelIdeal := hKernelIdeal)
    ∧ quiescent_KernelIdeal_pre_unpadded_finite (hKernelIdeal := hKernelIdeal) (hPre_unpadded_finite := hPre_unpadded_finite)
    ∧ quiescent_ReferenceIdeal (hReferenceIdeal := hReferenceIdeal)
    ∧ quiescent_ReferenceIdeal_pre_unpadded_finite (hReferenceIdeal := hReferenceIdeal) (hPre_unpadded_finite := hPre_unpadded_finite)
    ∧ preserves_Kernel_KernelIdeal
    ∧ algebraic_KernelIdeal_ReferenceIdeal_pre_unpadded_finite (hKernelIdeal := hKernelIdeal) (hReferenceIdeal := hReferenceIdeal) (hPre_unpadded_finite := hPre_unpadded_finite)
-- ==== Pre_unpadded_finite.lean ====
abbrev S16x512 : Shape := ⟨2, ![16, 512]⟩
abbrev S16x4096x512 : Shape := ⟨3, ![16, 4096, 512]⟩
abbrev S16x4096 : Shape := ⟨2, ![16, 4096]⟩
abbrev S64x512 : Shape := ⟨2, ![64, 512]⟩
abbrev S512x512 : Shape := ⟨2, ![512, 512]⟩
abbrev S512 : Shape := ⟨1, ![512]⟩
abbrev S16x4096x1 : Shape := ⟨3, ![16, 4096, 1]⟩
abbrev S_ : Shape := ⟨0, ![]⟩

class Facts : Prop where
  bcast_S16x4096_S16x4096x1_0_1 : S16x4096.BroadcastsInDim S16x4096x1 (![0, 1] : Fin 2 → Fin S16x4096x1.rank)
  bcast_S16x4096x1_S16x4096x512_0_1_2 : S16x4096x1.BroadcastsInDim S16x4096x512 (![0, 1, 2] : Fin 3 → Fin S16x4096x512.rank)
  bcast_S_S16x4096x512 : S_.BroadcastsInDim S16x4096x512 (![] : Fin 0 → Fin S16x4096x512.rank)
  bcast_S_S16x512 : S_.BroadcastsInDim S16x512 (![] : Fin 0 → Fin S16x512.rank)
  reducesTo_S16x512_S_d0_1 : S16x512.ReducesTo [0, 1] S_
  h_S_ : 0 < S_.numel
  reducesTo_S16x4096x512_S_d0_1_2 : S16x4096x512.ReducesTo [0, 1, 2] S_
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512x512 .f32) (main_v32 : IVec S_ 1) (main_v33 : FVec F S512 .f32) (main_cst_11 : FVec F S_ .f32) : IVec S_ 1 :=
  let main_v34 : FVec F S512 .f32 := broadcastInDim S512 ![] bcast_S_S512 main_cst_11
  let main_v35 : IVec S512 1 := cmpf .olt main_v33 main_v34
  let main_c_12 : IVec S_ 1 := constantI S_ 1 1#1
  let main_v36 : IVec S_ 1 := (fun x v => Host.reduce IntOp.andi x v reducesTo_S512_S_d0 h_S_) main_v35 main_c_12
  let main_v37 : IVec S_ 1 := andi main_v32 main_v36
  let main_v38 : FVec F S512x512 .f32 := Host.absf main_arg8
  let main_cst_13 : FVec F S_ .f32 := constant S_ .f32 0x7F800000#32
  let main_v39 : FVec F S512x512 .f32 := broadcastInDim S512x512 ![] bcast_S_S512x512 main_cst_13
  let main_v40 : IVec S512x512 1 := cmpf .olt main_v38 main_v39
  let main_c_14 : IVec S_ 1 := constantI S_ 1 1#1
  let main_v41 : IVec S_ 1 := (fun x v => Host.reduce IntOp.andi x v reducesTo_S512x512_S_d0_1 h_S_) main_v40 main_c_14
  let main_v42 : IVec S_ 1 := andi main_v37 main_v41
  main_v42

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_v12 : IVec S_ 1) (main_v16 : IVec S_ 1) : IVec S_ 1 :=
  let main_v17 : IVec S_ 1 := andi main_v12 main_v16
  let main_v18 : FVec F S512x512 .f32 := Host.absf main_arg4
  let main_cst_5 : FVec F S_ .f32 := constant S_ .f32 0x7F800000#32
  let main_v19 : FVec F S512x512 .f32 := broadcastInDim S512x512 ![] bcast_S_S512x512 main_cst_5
  let main_v20 : IVec S512x512 1 := cmpf .olt main_v18 main_v19
  let main_c_6 : IVec S_ 1 := constantI S_ 1 1#1
  let main_v21 : IVec S_ 1 := (fun x v => Host.reduce IntOp.andi x v reducesTo_S512x512_S_d0_1 h_S_) main_v20 main_c_6
  let main_v22 : IVec S_ 1 := andi main_v17 main_v21
  let main_v23 : FVec F S512 .f32 := Host.absf main_arg5
  let main_cst_7 : FVec F S_ .f32 := constant S_ .f32 0x7F800000#32
  let main_v24 : FVec F S512 .f32 := broadcastInDim S512 ![] bcast_S_S512 main_cst_7
  let main_v25 : IVec S512 1 := cmpf .olt main_v23 main_v24
  let main_c_8 : IVec S_ 1 := constantI S_ 1 1#1
  let main_v26 : IVec S_ 1 := (fun x v => Host.reduce IntOp.andi x v reducesTo_S512_S_d0 h_S_) main_v25 main_c_8
  let main_v27 : IVec S_ 1 := andi main_v22 main_v26
  let main_v28 : FVec F S512x512 .f32 := Host.absf main_arg6
  let main_cst_9 : FVec F S_ .f32 := constant S_ .f32 0x7F800000#32
  let main_v29 : FVec F S512x512 .f32 := broadcastInDim S512x512 ![] bcast_S_S512x512 main_cst_9
  let main_v30 : IVec S512x512 1 := cmpf .olt main_v28 main_v29
  let main_c_10 : IVec S_ 1 := constantI S_ 1 1#1
  let main_v31 : IVec S_ 1 := (fun x v => Host.reduce IntOp.andi x v reducesTo_S512x512_S_d0_1 h_S_) main_v30 main_c_10
  let main_v32 : IVec S_ 1 := andi main_v27 main_v31
  let main_v33 : FVec F S512 .f32 := Host.absf main_arg7
  let main_cst_11 : FVec F S_ .f32 := constant S_ .f32 0x7F800000#32
  fn_part2 (F := F) main_arg8 main_v32 main_v33 main_cst_11

def fn {F : FTy → Type} [FloatOps F] (main_arg0 : FVec F S16x512 .f32) (main_arg1 : FVec F S16x4096x512 .f32) (main_arg2 : IVec S16x4096 1) (main_arg3 : FVec F S64x512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512 .f32) : IVec S_ 1 :=
  let main_v0 : IVec S16x4096x1 1 := broadcastInDim S16x4096x1 ![0, 1] bcast_S16x4096_S16x4096x1_0_1 main_arg2
  let main_v1 : IVec S16x4096x512 1 := broadcastInDim S16x4096x512 ![0, 1, 2] bcast_S16x4096x1_S16x4096x512_0_1_2 main_v0
  let main_cst : FVec F S_ .f32 := constant S_ .f32 0x00000000#32
  let main_v2 : FVec F S16x4096x512 .f32 := broadcastInDim S16x4096x512 ![] bcast_S_S16x4096x512 main_cst
  let main_v3 : FVec F S16x4096x512 .f32 := select main_v1 main_v2 main_arg1
  let main_v4 : FVec F S16x512 .f32 := Host.absf main_arg0
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c : IVec S_ 1 := constantI S_ 1 1#1
  let main_v7 : IVec S_ 1 := (fun x v => Host.reduce IntOp.andi x v reducesTo_S16x512_S_d0_1 h_S_) main_v6 main_c
  let main_v8 : FVec F S16x4096x512 .f32 := Host.absf main_v3
  let main_cst_1 : FVec F S_ .f32 := constant S_ .f32 0x7F800000#32
  let main_v9 : FVec F S16x4096x512 .f32 := broadcastInDim S16x4096x512 ![] bcast_S_S16x4096x512 main_cst_1
  let main_v10 : IVec S16x4096x512 1 := cmpf .olt main_v8 main_v9
  let main_c_2 : IVec S_ 1 := constantI S_ 1 1#1
  let main_v11 : IVec S_ 1 := (fun x v => Host.reduce IntOp.andi x v reducesTo_S16x4096x512_S_d0_1_2 h_S_) main_v10 main_c_2
  let main_v12 : IVec S_ 1 := andi main_v7 main_v11
  let main_v13 : FVec F S64x512 .f32 := Host.absf main_arg3
  let main_cst_3 : FVec F S_ .f32 := constant S_ .f32 0x7F800000#32
  let main_v14 : FVec F S64x512 .f32 := broadcastInDim S64x512 ![] bcast_S_S64x512 main_cst_3
  let main_v15 : IVec S64x512 1 := cmpf .olt main_v13 main_v14
  let main_c_4 : IVec S_ 1 := constantI S_ 1 1#1
  let main_v16 : IVec S_ 1 := (fun x v => Host.reduce IntOp.andi x v reducesTo_S64x512_S_d0_1 h_S_) main_v15 main_c_4
  fn_part1 (F := F) main_arg4 main_arg5 main_arg6 main_arg7 main_arg8 main_v12 main_v16
-- ==== Kernel.lean ====
abbrev S16x512 : Shape := ⟨2, ![16, 512]⟩
abbrev S16x4096x512 : Shape := ⟨3, ![16, 4096, 512]⟩
abbrev S16x4096 : Shape := ⟨2, ![16, 4096]⟩
abbrev S64x512 : Shape := ⟨2, ![64, 512]⟩
abbrev S512x512 : Shape := ⟨2, ![512, 512]⟩
abbrev S512 : Shape := ⟨1, ![512]⟩
abbrev S16x8x512x512 : Shape := ⟨4, ![16, 8, 512, 512]⟩
abbrev S16x1x4096 : Shape := ⟨3, ![16, 1, 4096]⟩
abbrev S1x512 : Shape := ⟨2, ![1, 512]⟩
abbrev S16x64x512 : Shape := ⟨3, ![16, 64, 512]⟩
abbrev S16x64 : Shape := ⟨2, ![16, 64]⟩
abbrev S1x1x512x512 : Shape := ⟨4, ![1, 1, 512, 512]⟩
abbrev S1x1x4096 : Shape := ⟨3, ![1, 1, 4096]⟩
abbrev S1024x512 : Shape := ⟨2, ![1024, 512]⟩
abbrev S16x1 : Shape := ⟨2, ![16, 1]⟩
abbrev S1x64x512 : Shape := ⟨3, ![1, 64, 512]⟩
abbrev S16x1x512 : Shape := ⟨3, ![16, 1, 512]⟩
abbrev S1x1x512 : Shape := ⟨3, ![1, 1, 512]⟩
abbrev S1x4096 : Shape := ⟨2, ![1, 4096]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1024 : Shape := ⟨1, ![1024]⟩
abbrev S1024x1 : Shape := ⟨2, ![1024, 1]⟩
abbrev S16x1x1 : Shape := ⟨3, ![16, 1, 1]⟩
abbrev S_ : Shape := ⟨0, ![]⟩

abbrev nBuf : Space → Nat
  | .hbm => 23
  | .vmem => 31
  | .smem => 0
  | _ => 0

abbrev bufTy : (tb : Table) → Fin (tcTables nBuf tb) → BufTy
  | .hbm, ⟨0, _⟩ => ⟨S16x512, .f32⟩
  | .hbm, ⟨1, _⟩ => ⟨S16x4096x512, .f32⟩
  | .hbm, ⟨2, _⟩ => ⟨S16x4096, .i1⟩
  | .hbm, ⟨3, _⟩ => ⟨S64x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S16x8x512x512, .f32⟩
  | .hbm, ⟨12, _⟩ => ⟨S16x1x4096, .i1⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S16x1x4096, .i32⟩
  | .hbm, ⟨17, _⟩ => ⟨S16x64x512, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .i1⟩
  | .hbm, ⟨22, _⟩ => ⟨S16x64, .i1⟩
  | .local _ .vmem, ⟨0, _⟩ => ⟨S16x512, .f32⟩
  | .local _ .vmem, ⟨1, _⟩ => ⟨S64x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S1x1x512x512, .f32⟩
  | .local _ .vmem, ⟨16, _⟩ => ⟨S1x1x512x512, .f32⟩
  | .local _ .vmem, ⟨17, _⟩ => ⟨S1x1x512x512, .f32⟩
  | .local _ .vmem, ⟨18, _⟩ => ⟨S1x1x512x512, .f32⟩
  | .local _ .vmem, ⟨19, _⟩ => ⟨S1x1x512x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x1x512x512, .f32⟩
  | .local _ .vmem, ⟨23, _⟩ => ⟨S1x1x512x512, .f32⟩
  | .local _ .vmem, ⟨24, _⟩ => ⟨S1x1x4096, .i32⟩
  | .local _ .vmem, ⟨25, _⟩ => ⟨S1x1x4096, .i32⟩
  | .local _ .vmem, ⟨26, _⟩ => ⟨S16x64x512, .f32⟩
  | .local _ .vmem, ⟨27, _⟩ => ⟨S16x64, .f32⟩
  | .local _ .vmem, ⟨28, _⟩ => ⟨S1024x512, .f32⟩
  | .local _ .vmem, ⟨29, _⟩ => ⟨S1024x512, .f32⟩
  | .local _ .vmem, ⟨30, _⟩ => ⟨S16x1, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c64_i32 : BitVec 32 := 64#32
  let v3 : BitVec 32 := Scalar.muli arg0 c64_i32
  v3
def k0_off1 (i : grid0.Coords) : Fin 2 → Nat :=
  let arg0 : BitVec 32 := BitVec.ofNat 32 (i 0).val
  let c64_i32 : BitVec 32 := 64#32
  let v3 : BitVec 32 := Scalar.muli arg0 c64_i32
  let v4 : BitVec 32 := v3
  let v5 : Index := Scalar.indexCast v4
  let c0 : Index := 0#32
  ![v5.toNat, 0]
def k0_off2 (i : grid0.Coords) : Fin 2 → Nat :=
  let arg0 : BitVec 32 := BitVec.ofNat 32 (i 0).val
  let v216 : Index := Scalar.indexCast arg0
  let c0_83 : Index := 0#32
  ![v216.toNat, 0]
def k0_cond2 (i : grid0.Coords) : BitVec 1 :=
  let arg0 : BitVec 32 := BitVec.ofNat 32 (i 0).val
  let c15_i32 : BitVec 32 := 15#32
  let v220 : BitVec 1 := Scalar.cmpi .eq arg0 c15_i32
  let v221 : BitVec 32 := Scalar.extui v220
  let c0_i32_84 : BitVec 32 := 0#32
  let v222 : BitVec 1 := Scalar.cmpi .ne v221 c0_i32_84
  v222

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_11 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_12 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_13 (i : grid0.Coords) : Fin 4 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_14 (i : grid0.Coords) : Fin 4 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![arg0.toNat, c6_i32.toNat, c0_i32.toNat, c0_i32_0.toNat]

def cc0_transform_15 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x4096 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S16x64x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S16x512 : Shape := ⟨2, ![16, 512]⟩
abbrev S16x4096x512 : Shape := ⟨3, ![16, 4096, 512]⟩
abbrev S16x4096 : Shape := ⟨2, ![16, 4096]⟩
abbrev S64x512 : Shape := ⟨2, ![64, 512]⟩
abbrev S512x512 : Shape := ⟨2, ![512, 512]⟩
abbrev S512 : Shape := ⟨1, ![512]⟩
abbrev S16x4096x1 : Shape := ⟨3, ![16, 4096, 1]⟩
abbrev S1x64x512 : Shape := ⟨3, ![1, 64, 512]⟩
abbrev S1x512 : Shape := ⟨2, ![1, 512]⟩
abbrev S16x1x512 : Shape := ⟨3, ![16, 1, 512]⟩
abbrev S16x64x512 : Shape := ⟨3, ![16, 64, 512]⟩
abbrev S1x1x512 : Shape := ⟨3, ![1, 1, 512]⟩
abbrev S16x64x4096 : Shape := ⟨3, ![16, 64, 4096]⟩
abbrev S_ : Shape := ⟨0, ![]⟩
abbrev S16 : Shape := ⟨1, ![16]⟩
abbrev S16x1 : Shape := ⟨2, ![16, 1]⟩
abbrev S16x1x4096 : Shape := ⟨3, ![16, 1, 4096]⟩
abbrev S16x64 : Shape := ⟨2, ![16, 64]⟩
abbrev S16x64x1 : Shape := ⟨3, ![16, 64, 1]⟩
abbrev S16x1x1 : Shape := ⟨3, ![16, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x4096x512, .f32⟩
  | .hbm, ⟨2, _⟩ => ⟨S16x4096, .i1⟩
  | .hbm, ⟨3, _⟩ => ⟨S64x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S16x4096, .i1⟩
  | .hbm, ⟨12, _⟩ => ⟨S16x4096, .f32⟩
  | .hbm, ⟨13, _⟩ => ⟨S16x4096x1, .f32⟩
  | .hbm, ⟨14, _⟩ => ⟨S16x4096x512, .f32⟩
  | .hbm, ⟨15, _⟩ => ⟨S16x4096x512, .f32⟩
  | .hbm, ⟨16, _⟩ => ⟨S1x64x512, .f32⟩
  | .hbm, ⟨17, _⟩ => ⟨S16x512, .f32⟩
  | .hbm, ⟨18, _⟩ => ⟨S1x512, .f32⟩
  | .hbm, ⟨19, _⟩ => ⟨S16x512, .f32⟩
  | .hbm, ⟨20, _⟩ => ⟨S16x512, .f32⟩
  | .hbm, ⟨21, _⟩ => ⟨S16x1x512, .f32⟩
  | .hbm, ⟨22, _⟩ => ⟨S16x64x512, .f32⟩
  | .hbm, ⟨23, _⟩ => ⟨S16x64x512, .f32⟩
  | .hbm, ⟨24, _⟩ => ⟨S16x64x512, .f32⟩
  | .hbm, ⟨25, _⟩ => ⟨S16x4096x512, .f32⟩
  | .hbm, ⟨26, _⟩ => ⟨S1x1x512, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S1x1x512, .f32⟩
  | .hbm, ⟨31, _⟩ => ⟨S16x4096x512, .f32⟩
  | .hbm, ⟨32, _⟩ => ⟨S16x4096x512, .f32⟩
  | .hbm, ⟨33, _⟩ => ⟨S16x4096x512, .f32⟩
  | .hbm, ⟨34, _⟩ => ⟨S16x4096x512, .f32⟩
  | .hbm, ⟨35, _⟩ => ⟨S16x64x4096, .f32⟩
  | .hbm, ⟨36, _⟩ => ⟨S_, .f32⟩
  | .hbm, ⟨37, _⟩ => ⟨S16x64x4096, .f32⟩
  | .hbm, ⟨38, _⟩ => ⟨S16x64x4096, .f32⟩
  | .hbm, ⟨39, _⟩ => ⟨S_, .i1⟩
  | .hbm, ⟨40, _⟩ => ⟨S16, .i1⟩
  | .hbm, ⟨41, _⟩ => ⟨S16x1, .i1⟩
  | .hbm, ⟨42, _⟩ => ⟨S16x1, .i1⟩
  | .hbm, ⟨43, _⟩ => ⟨S16x4096, .i1⟩
  | .hbm, ⟨44, _⟩ => ⟨S16x4096, .i1⟩
  | .hbm, ⟨45, _⟩ => ⟨S16x1x4096, .i1⟩
  | .hbm, ⟨46, _⟩ => ⟨S_, .f32⟩
  | .hbm, ⟨47, _⟩ => ⟨S_, .f32⟩
  | .hbm, ⟨48, _⟩ => ⟨S16x64x4096, .i1⟩
  | .hbm, ⟨49, _⟩ => ⟨S16x64x4096, .f32⟩
  | .hbm, ⟨50, _⟩ => ⟨S16x64x4096, .f32⟩
  | .hbm, ⟨51, _⟩ => ⟨S_, .f32⟩
  | .hbm, ⟨52, _⟩ => ⟨S16x64, .f32⟩
  | .hbm, ⟨53, _⟩ => ⟨S_, .f32⟩
  | .hbm, ⟨54, _⟩ => ⟨S16x64, .f32⟩
  | .hbm, ⟨55, _⟩ => ⟨S16x64, .f32⟩
  | .hbm, ⟨56, _⟩ => ⟨S16x64x1, .f32⟩
  | .hbm, ⟨57, _⟩ => ⟨S16x64x4096, .f32⟩
  | .hbm, ⟨58, _⟩ => ⟨S16x64x4096, .f32⟩
  | .hbm, ⟨59, _⟩ => ⟨S16x64x4096, .f32⟩
  | .hbm, ⟨60, _⟩ => ⟨S_, .f32⟩
  | .hbm, ⟨61, _⟩ => ⟨S16x64, .f32⟩
  | .hbm, ⟨62, _⟩ => ⟨S16x64x1, .f32⟩
  | .hbm, ⟨63, _⟩ => ⟨S16x64x4096, .f32⟩
  | .hbm, ⟨64, _⟩ => ⟨S16x64x4096, .f32⟩
  | .hbm, ⟨65, _⟩ => ⟨S16x64x512, .f32⟩
  | .hbm, ⟨66, _⟩ => ⟨S16x64x512, .f32⟩
  | .hbm, ⟨67, _⟩ => ⟨S_, .f32⟩
  | .hbm, ⟨68, _⟩ => ⟨S16x64, .f32⟩
  | .hbm, ⟨69, _⟩ => ⟨S16x64x1, .f32⟩
  | .hbm, ⟨70, _⟩ => ⟨S_, .f32⟩
  | .hbm, ⟨71, _⟩ => ⟨S16x64x1, .f32⟩
  | .hbm, ⟨72, _⟩ => ⟨S16x64x1, .f32⟩
  | .hbm, ⟨73, _⟩ => ⟨S_, .f32⟩
  | .hbm, ⟨74, _⟩ => ⟨S16x64x1, .f32⟩
  | .hbm, ⟨75, _⟩ => ⟨S16x64x1, .f32⟩
  | .hbm, ⟨76, _⟩ => ⟨S16x64x1, .f32⟩
  | .hbm, ⟨77, _⟩ => ⟨S16x64x512, .f32⟩
  | .hbm, ⟨78, _⟩ => ⟨S16x64x512, .f32⟩
  | .hbm, ⟨79, _⟩ => ⟨S1x1x512, .f32⟩
  | .hbm, ⟨80, _⟩ => ⟨S16x64x512, .f32⟩
  | .hbm, ⟨81, _⟩ => ⟨S16x64x512, .f32⟩
  | .hbm, ⟨82, _⟩ => ⟨S16x1, .i1⟩
  | .hbm, ⟨83, _⟩ => ⟨S16x1, .f32⟩
  | .hbm, ⟨84, _⟩ => ⟨S16x1x1, .f32⟩
  | .hbm, ⟨85, _⟩ => ⟨S16x64x512, .f32⟩
  | .hbm, ⟨86, _⟩ => ⟨S16x64x512, .f32⟩
  | .hbm, ⟨87, _⟩ => ⟨S16x64, .i1⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.Step.lean ====
/- What one grid point does to the buffers it holds, as functions of what they held before. -/
module

public import proofs.«01_k».proof.Proof.Gen.KernelIdeal.Frame
public import proofs.«01_k».proof.Proof.Gen.KernelIdeal.Skeleton
public import Idealize.ShloMosaic.Lib.WritesUnit
public import Idealize.ShloMosaic.Lib.VecWindow
public import Idealize.ShloMosaic.Lib.Pipeline.ValueKit.Basic

@[expose] public section

set_option maxRecDepth 16384

noncomputable section

namespace Cert.Pooler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Grid point 0: the point that computes the folded queries. -/
def First (i : grid0.Coords) : Prop :=
  (Scalar.cmpi .ne (Scalar.extui (Scalar.cmpi .eq (BitVec.ofNat 32 (i 0).val) 0#32)) 0#32) = 1#1

/-- Grid point 15: the point that computes the results. -/
def Last (i : grid0.Coords) : Prop := k0_cond2 i = 1#1

instance (i : grid0.Coords) : Decidable (First i) := inferInstanceAs (Decidable (_ = _))
instance (i : grid0.Coords) : Decidable (Last i) := inferInstanceAs (Decidable (_ = _))

/-- The 64 rows of a [1024, 512] array which belong to the grid point. -/
def rowsOf (i : grid0.Coords) (X : Vec F S1024x512 .f32) : Vec F S64x512 .f32 :=
  View.ld X (Rect.unit (s := S1024x512) (k0_off1 i) S64x512.size (k0_off1_inb i))

/-- The greatest masked score of every row over the eight chunks. -/
def topScore (q : Vec F S64x512 .f32) (p : IVec S1x4096 1) (t0 t1 t2 t3 t4 t5 t6 t7 : FVec F S512x512 .f32) :
    FVec F S64x1 .f32 :=
  k0_pay33 q p t5 t6 t7 (k0_pay18 q p t0) (k0_pay20 q p t1) (k0_pay22 q p t2) (k0_pay24 q p t3) (k0_pay25 q p t4)

/-- The pooled block of one batch row: from its folded queries `q`, its padding flags `p` and its eight token chunks. -/
def pool (q : Vec F S64x512 .f32) (p : IVec S1x4096 1) (t0 t1 t2 t3 t4 t5 t6 t7 : FVec F S512x512 .f32) :
    FVec F S64x512 .f32 :=
  k0_pay52 t5 t6 t7 (k0_pay27 q p t5) (k0_pay28 q p t5) (k0_pay29 q p t6) (k0_pay30 q p t6) (k0_pay31 q p t7)
    (k0_pay32 q p t7) (topScore q p t0 t1 t2 t3 t4 t5 t6 t7)
    (k0_pay46 t1 t2 t3 (k0_pay19 q p t1) (k0_pay20 q p t1) (k0_pay21 q p t2) (k0_pay22 q p t2) (k0_pay23 q p t3)
      (k0_pay24 q p t3) (topScore q p t0 t1 t2 t3 t4 t5 t6 t7) k0_pay34 (k0_pay38 t0 (k0_pay17 q p t0) (k0_pay18 q p t0))
      (k0_pay39 q p t5 t6 t7 (k0_pay18 q p t0) (k0_pay20 q p t1) (k0_pay22 q p t2) (k0_pay24 q p t3) (k0_pay25 q p t4)))
    (k0_pay49 (k0_pay19 q p t1) (k0_pay20 q p t1) (k0_pay21 q p t2) (k0_pay22 q p t2) (k0_pay23 q p t3)
      (k0_pay24 q p t3) (k0_pay25 q p t4) (k0_pay26 (k0_pay25 q p t4)) (topScore q p t0 t1 t2 t3 t4 t5 t6 t7)
      (k0_pay37 q p t5 t6 t7 (k0_pay17 q p t0) (k0_pay18 q p t0) (k0_pay20 q p t1) (k0_pay22 q p t2) (k0_pay24 q p t3)
        (k0_pay25 q p t4)))
    (k0_pay50 t4 (k0_pay25 q p t4) (k0_pay26 (k0_pay25 q p t4)))
    (k0_pay51 (k0_pay26 (k0_pay25 q p t4)) (topScore q p t0 t1 t2 t3 t4 t5 t6 t7))

/-- The folded queries after the grid point: computed anew at the first point, otherwise kept. -/
def nextQ (i : grid0.Coords) (x0 : Vec F S16x512 .f32) (x1 : Vec F S64x512 .f32) (x2 : Vec F S512x512 .f32)
    (x3 : Vec F S1x512 .f32) (x4 : Vec F S512x512 .f32) (s0 : Vec F S1024x512 .f32) : Vec F S1024x512 .f32 :=
  if First i then k0_pay7 x0 x2 x1 x3 x4 else s0

/-- The pooled rows after the grid point: its own 64 rows are put in place. -/
def nextPool (i : grid0.Coords) (q : Vec F S1024x512 .f32) (x8 x9 x10 x11 x12 x13 x14 x15 : Vec F S1x1x512x512 .f32)
    (x16 : Vec F S1x1x4096 .i32) (s1 : Vec F S1024x512 .f32) : Vec F S1024x512 .f32 :=
  VecWindow.put s1 (k0_off1 i) S64x512.size
    (pool (rowsOf i q) (k0_pay8 x16) (k0_pay9 x8) (k0_pay10 x9) (k0_pay11 x10) (k0_pay12 x11) (k0_pay13 x12)
      (k0_pay14 x13) (k0_pay15 x14) (k0_pay16 x15))

/-- The validity column after the grid point: its own entry is put in place. -/
def nextAv (i : grid0.Coords) (x16 : Vec F S1x1x4096 .i32) (s2 : Vec F S16x1 .f32) : Vec F S16x1 .f32 :=
  VecWindow.put s2 (k0_off2 i) S1x1.size (k0_pay1 (k0_pay53 (k0_pay8 x16)))

/-- The first result's buffer after the grid point: written at the last point, otherwise kept. -/
def nextOut (i : grid0.Coords) (x5 : Vec F S512x512 .f32) (x6 x7 : Vec F S1x512 .f32) (s1 : Vec F S1024x512 .f32)
    (s2 : Vec F S16x1 .f32) (y : Vec F S16x64x512 .f32) : Vec F S16x64x512 .f32 :=
  if Last i then k0_pay3 s1 x5 x6 x7 s2 else y

/-- The second result's buffer after the grid point: written at the last point, otherwise kept. -/
def nextMask (i : grid0.Coords) (s2 : Vec F S16x1 .f32) (y : Vec F S16x64 .f32) : Vec F S16x64 .f32 :=
  if Last i then k0_pay2 (k0_pay4 s2) k0_pay5 k0_pay6 else y

/-- The first point is the one with coordinate 0. -/
theorem first_iff (i : grid0.Coords) : First i ↔ (i 0).val = 0 := by
  have h : (i 0).val < 16 := (i 0).isLt
  simp only [First]
  word_cmp

/-- The last point is the one with coordinate 15. -/
theorem last_iff (i : grid0.Coords) : Last i ↔ (i 0).val = 15 := by
  have h : (i 0).val < 16 := (i 0).isLt
  simp only [Last, k0_cond2]
  word_cmp

end Cert.Pooler
-- ==== Proof.Body.lean ====
/- One grid point of the kernel, run once for all its cases. -/
module

public import proofs.«01_k».proof.Proof.Gen.KernelIdeal.Frame
public import proofs.«01_k».proof.Proof.Gen.KernelIdeal.Skeleton
public import Idealize.ShloMosaic.Lib.WritesUnit
public import Idealize.ShloMosaic.Lib.VecWindow
public import Idealize.ShloMosaic.Lib.Pipeline.ValueKit.Basic
public import proofs.«01_k».proof.Proof.Step

@[expose] public section

set_option maxRecDepth 16384

noncomputable section

namespace Cert.Pooler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The origin of a view, of each rank. -/
theorem zero1 : (![0] : Fin 1 → ℕ) = fun _ => 0 := by funext a; fin_cases a <;> rfl
theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- Putting a whole array in place of another leaves the new one. -/
theorem put_whole {S : Shape} {α : Type} {off : Fin S.rank → ℕ} (h : off = fun _ => 0) (x w : S.Idx → α) :
    VecWindow.put x off S.size w = w := by
  subst h
  funext y
  unfold VecWindow.put
  rw [dif_pos fun a => ⟨Nat.zero_le _, by rw [Nat.zero_add]; exact (y a).isLt⟩]
  exact congrArg w (funext fun a => Fin.ext (Nat.sub_zero _))

set_option maxHeartbeats 40000000 in
/-- One grid point, whichever it is: from the buffers it holds to the same buffers at the values of the step
    functions. -/
theorem body_run (c : Dev nD) (i : grid0.Coords) (arg1 : Memref sig .tc .vmem S16x512 .f32) (harg1 : arg1.IsWhole)
    (arg2 : Memref sig .tc .vmem S64x512 .f32) (harg2 : arg2.IsWhole) (arg3 : Memref sig .tc .vmem S512x512 .f32)
    (harg3 : arg3.IsWhole) (arg4 : Memref sig .tc .vmem S1x512 .f32) (harg4 : arg4.IsWhole) (arg5 : Memref sig .tc
    .vmem S512x512 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S1x512 .f32)
    (harg8 : arg8.IsWhole) (arg9 : Memref sig .tc .vmem S1x1x512x512 .f32) (harg9 : arg9.IsWhole) (arg10 : Memref
    sig .tc .vmem S1x1x512x512 .f32) (harg10 : arg10.IsWhole) (arg11 : Memref sig .tc .vmem S1x1x512x512 .f32)
    (harg11 : arg11.IsWhole) (arg12 : Memref sig .tc .vmem S1x1x512x512 .f32) (harg12 : arg12.IsWhole) (arg13 :
    Memref sig .tc .vmem S1x1x512x512 .f32) (harg13 : arg13.IsWhole) (arg14 : Memref sig .tc .vmem S1x1x512x512
    .f32) (harg14 : arg14.IsWhole) (arg15 : Memref sig .tc .vmem S1x1x512x512 .f32) (harg15 : arg15.IsWhole) (arg16
    : Memref sig .tc .vmem S1x1x512x512 .f32) (harg16 : arg16.IsWhole) (arg17 : Memref sig .tc .vmem S1x1x4096 .i32)
    (harg17 : arg17.IsWhole) (arg18 : Memref sig .tc .vmem S16x64x512 .f32) (harg18 : arg18.IsWhole) (arg19 : Memref
    sig .tc .vmem S16x64 .f32) (harg19 : arg19.IsWhole) (arg20 : Memref sig .tc .vmem S1024x512 .f32) (harg20 :
    arg20.IsWhole) (arg21 : Memref sig .tc .vmem S1024x512 .f32) (harg21 : arg21.IsWhole) (arg22 : Memref sig .tc
    .vmem S16x1 .f32) (harg22 : arg22.IsWhole)
    (x0 : Vec F S16x512 .f32) (x1 : Vec F S64x512 .f32) (x2 : Vec F S512x512 .f32) (x3 : Vec F S1x512 .f32) (x4 : Vec F
    S512x512 .f32) (x5 : Vec F S512x512 .f32) (x6 : Vec F S1x512 .f32) (x7 : Vec F S1x512 .f32) (x8 : Vec F
    S1x1x512x512 .f32) (x9 : Vec F S1x1x512x512 .f32) (x10 : Vec F S1x1x512x512 .f32) (x11 : Vec F S1x1x512x512
    .f32) (x12 : Vec F S1x1x512x512 .f32) (x13 : Vec F S1x1x512x512 .f32) (x14 : Vec F S1x1x512x512 .f32) (x15 : Vec
    F S1x1x512x512 .f32) (x16 : Vec F S1x1x4096 .i32) (y17 : Vec F S16x64x512 .f32) (y18 : Vec F S16x64 .f32) (s0 s1
    : Vec F S1024x512 .f32) (s2 : Vec F S16x1 .f32)
    (E : Set ℕ) (K : PUnit → sProp 𝕄) :
    iprop(owns (c : Thread nD τ) arg1 fullShare x0 ∗ owns (c : Thread nD τ) arg2 fullShare x1 ∗ owns (c : Thread nD τ)
      arg3 fullShare x2 ∗ owns (c : Thread nD τ) arg4 fullShare x3 ∗ owns (c : Thread nD τ) arg5 fullShare x4 ∗ owns
      (c : Thread nD τ) arg6 fullShare x5 ∗ owns (c : Thread nD τ) arg7 fullShare x6 ∗ owns (c : Thread nD τ) arg8
      fullShare x7 ∗ owns (c : Thread nD τ) arg9 fullShare x8 ∗ owns (c : Thread nD τ) arg10 fullShare x9 ∗ owns (c
      : Thread nD τ) arg11 fullShare x10 ∗ owns (c : Thread nD τ) arg12 fullShare x11 ∗ owns (c : Thread nD τ) arg13
      fullShare x12 ∗ owns (c : Thread nD τ) arg14 fullShare x13 ∗ owns (c : Thread nD τ) arg15 fullShare x14 ∗ owns
      (c : Thread nD τ) arg16 fullShare x15 ∗ owns (c : Thread nD τ) arg17 fullShare x16 ∗ owns (c : Thread nD τ)
      arg18 fullShare y17 ∗ owns (c : Thread nD τ) arg19 fullShare y18 ∗ owns (c : Thread nD τ) arg20 fullShare s0 ∗
      owns (c : Thread nD τ) arg21 fullShare s1 ∗ owns (c : Thread nD τ) arg22 fullShare s2
        ∗ (iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗
          owns (c : Thread nD τ) arg6 fullShare x5 ∗ owns (c : Thread nD τ) arg7 fullShare x6 ∗ owns (c : Thread nD
          τ) arg8 fullShare x7 ∗ owns (c : Thread nD τ) arg9 fullShare x8 ∗ owns (c : Thread nD τ) arg10 fullShare
          x9 ∗ owns (c : Thread nD τ) arg11 fullShare x10 ∗ owns (c : Thread nD τ) arg12 fullShare x11 ∗ owns (c :
          Thread nD τ) arg13 fullShare x12 ∗ owns (c : Thread nD τ) arg14 fullShare x13 ∗ owns (c : Thread nD τ)
          arg15 fullShare x14 ∗ owns (c : Thread nD τ) arg16 fullShare x15 ∗ owns (c : Thread nD τ) arg17 fullShare
          x16 ∗ owns (c : Thread nD τ) arg18 fullShare (nextOut i x5 x6 x7 (nextPool i (nextQ i x0 x1 x2 x3 x4 s0)
          x8 x9 x10 x11 x12 x13 x14 x15 x16 s1) (nextAv i x16 s2) y17) ∗ owns (c : Thread nD τ) arg19 fullShare
          (nextMask i (nextAv i x16 s2) y18) ∗ owns (c : Thread nD τ) arg20 fullShare (nextQ i x0 x1 x2 x3 x4 s0) ∗
          owns (c : Thread nD τ) arg21 fullShare (nextPool i (nextQ i x0 x1 x2 x3 x4 s0) x8 x9 x10 x11 x12 x13 x14
          x15 x16 s1) ∗ owns (c : Thread nD τ) arg22 fullShare (nextAv i x16 s2)) -∗ K ⟨⟩))
      ⊢ wp frame (wpE (defs₀ (F := F)) Variants.none c none) E
        (cc0_latent_pooler_fused i arg1 harg1 arg2 harg2 arg3 harg3 arg4 harg4 arg5 harg5 arg6 harg6 arg7 harg7 arg8 harg8
          arg9 harg9 arg10 harg10 arg11 harg11 arg12 harg12 arg13 harg13 arg14 harg14 arg15 harg15 arg16 harg16
          arg17 harg17 arg18 harg18 arg19 harg19 arg20 harg20 arg21 harg21 arg22 harg22) K := by
  simp only [cc0_latent_pooler_fused_eq_skeleton]; unfold cc0_latent_pooler_fused_skel
  simp only [k0_part1_eq_skeleton, k0_part2_eq_skeleton, k0_part3_eq_skeleton, k0_part4_eq_skeleton,
    k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6,
    H6⟩, ⟨%f7, %hf7, H7⟩, ⟨%f8, %hf8, H8⟩, ⟨%f9, %hf9, H9⟩, ⟨%f10, %hf10, H10⟩, ⟨%f11, %hf11, H11⟩, ⟨%f12, %hf12,
    H12⟩, ⟨%f13, %hf13, H13⟩, ⟨%f14, %hf14, H14⟩, ⟨%f15, %hf15, H15⟩, ⟨%f16, %hf16, H16⟩, ⟨%f17, %hf17, H17⟩, ⟨%f18,
    %hf18, H18⟩, ⟨%f19, %hf19, H19⟩, ⟨%f20, %hf20, H20⟩, ⟨%f21, %hf21, H21⟩, Hk⟩
  obtain rfl := harg1.eq_unread hf0; obtain rfl := harg2.eq_unread hf1; obtain rfl := harg3.eq_unread hf2; obtain rfl
    := harg4.eq_unread hf3; obtain rfl := harg5.eq_unread hf4; obtain rfl := harg6.eq_unread hf5; obtain rfl :=
    harg7.eq_unread hf6; obtain rfl := harg8.eq_unread hf7; obtain rfl := harg9.eq_unread hf8; obtain rfl :=
    harg10.eq_unread hf9; obtain rfl := harg11.eq_unread hf10; obtain rfl := harg12.eq_unread hf11; obtain rfl :=
    harg13.eq_unread hf12; obtain rfl := harg14.eq_unread hf13; obtain rfl := harg15.eq_unread hf14; obtain rfl :=
    harg16.eq_unread hf15; obtain rfl := harg17.eq_unread hf16; obtain rfl := harg18.eq_unread hf17; obtain rfl :=
    harg19.eq_unread hf18; obtain rfl := harg20.eq_unread hf19; obtain rfl := harg21.eq_unread hf20; obtain rfl :=
    harg22.eq_unread hf21
  by_cases hc0 : First i <;> by_cases hc1 : Last i
  · exact absurd ((first_iff i).mp hc0 ▸ (last_iff i).mp hc1 : (0 : ℕ) = 15) (by decide)
  all_goals
    unfold First at hc0
    unfold Last at hc1
    sl_exec (disch := first | sl_exact hc0 | sl_exact hc1)
    sl_step
    iapply Hk
    isplitl [H0]
    on_goal 2 => isplitl [H1]
    on_goal 3 => isplitl [H2]
    on_goal 4 => isplitl [H3]
    on_goal 5 => isplitl [H4]
    on_goal 6 => isplitl [H5]
    on_goal 7 => isplitl [H6]
    on_goal 8 => isplitl [H7]
    on_goal 9 => isplitl [H8]
    on_goal 10 => isplitl [H9]
    on_goal 11 => isplitl [H10]
    on_goal 12 => isplitl [H11]
    on_goal 13 => isplitl [H12]
    on_goal 14 => isplitl [H13]
    on_goal 15 => isplitl [H14]
    on_goal 16 => isplitl [H15]
    on_goal 17 => isplitl [H16]
    on_goal 18 => isplitl [H17]
    on_goal 19 => isplitl [H18]
    on_goal 20 => isplitl [H19]
    on_goal 21 => isplitl [H20]
    all_goals
      iexists _
      isplitr; swap; · iassumption
      ipureintro
      first
      | with_reducible exact Memref.IsWhole.read_unread _ _
      | sl_unfold_run_names
        simp only [nextOut, nextMask, nextQ, nextPool, nextAv, First, Last, hc0, hc1, if_true, if_false, rowsOf, pool,
          topScore, View.read_writes_cons_put _ _ _ _ _ rfl, View.writes_nil, Memref.IsWhole.read_unread,
          View.readAt_eq_ld, View.readCov, put_whole (S := S1024x512) zero2, put_whole (S := S16x64) zero2,
          put_whole (S := S16x64x512) zero3, View.ld_unit_zero (S := S16x512) zero2,
          View.ld_unit_zero (S := S64x512) zero2, View.ld_unit_zero (S := S512x512) zero2,
          View.ld_unit_zero (S := S1x512) zero2, View.ld_unit_zero (S := S1x1x512x512) zero4,
          View.ld_unit_zero (S := S1x1x4096) zero3, View.ld_unit_zero (S := S1024x512) zero2,
          View.ld_unit_zero (S := S16x1) zero2]

end Cert.Pooler
-- ==== Proof.State.lean ====
/- The scratch arrays along the grid: what they hold after any number of points, and that after the last point they
   hold what the arguments alone determine. -/
module

public import proofs.«01_k».proof.Proof.Step
public import Idealize.ShloMosaic.Lib.ValueIdxCore

@[expose] public section

set_option maxRecDepth 16384

noncomputable section

namespace Cert.Pooler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-- The grid point number `n`. -/
def pt (n : ℕ) : Fin cfg0.N := ⟨n % 16, by rw [show cfg0.N = 16 from N_0]; exact Nat.mod_lt _ (by decide)⟩

/-- A grid point is the one with its number. -/
theorem pt_val (t : Fin cfg0.N) : pt t.val = t := by
  have h : t.val < 16 := lt_of_lt_of_eq t.isLt (show cfg0.N = 16 from N_0)
  exact Fin.ext (Nat.mod_eq_of_lt h)

/-- The coordinate of a grid point is its number. -/
theorem coord_val (t : Fin cfg0.N) : (grid0.coords t 0).val = t.val := by
  have h : t.val < 16 := lt_of_lt_of_eq t.isLt (show cfg0.N = 16 from N_0)
  have e : (grid0.coords t 0).val = t.val / 1 % 16 := Pipeline.Grid.coords_val t 0 (by decide) rfl
  rw [e, Nat.div_one, Nat.mod_eq_of_lt h]

/-- The coordinate of the grid point number `n` is `n`. -/
theorem coord_pt {n : ℕ} (h : n < 16) : (grid0.coords (pt n) 0).val = n :=
  (coord_val (pt n)).trans (Nat.mod_eq_of_lt h)

/-- The three scratch arrays: folded queries, pooled rows, validity column. -/
abbrev Scr (F : FTy → Type) : Type := Vec F S1024x512 .f32 × Vec F S1024x512 .f32 × Vec F S16x1 .f32

/-- The folded queries, from the blocks the first point reads. -/
def queries (c : Dev nD) (t : Fin cfg0.N) : Vec F S1024x512 .f32 :=
  k0_pay7 (iblk m c 0 t) (iblk m c 2 t) (iblk m c 1 t) (iblk m c 3 t) (iblk m c 4 t)

/-- The padding flags of the batch row of a grid point. -/
def flags (c : Dev nD) (t : Fin cfg0.N) : IVec S1x4096 1 := k0_pay8 (iblk m c 16 t)

/-- The pooled block of a grid point, from its folded queries. -/
def pooledOf (c : Dev nD) (t : Fin cfg0.N) (q : Vec F S64x512 .f32) : FVec F S64x512 .f32 :=
  pool q (flags m c t) (k0_pay9 (iblk m c 8 t)) (k0_pay10 (iblk m c 9 t)) (k0_pay11 (iblk m c 10 t))
    (k0_pay12 (iblk m c 11 t)) (k0_pay13 (iblk m c 12 t)) (k0_pay14 (iblk m c 13 t)) (k0_pay15 (iblk m c 14 t))
    (k0_pay16 (iblk m c 15 t))

/-- The validity entry of a grid point. -/
def validOf (c : Dev nD) (t : Fin cfg0.N) : FVec F S1x1 .f32 := k0_pay1 (k0_pay53 (flags m c t))

/-- One grid point's change of the scratch arrays. -/
def scrStep (c : Dev nD) (t : Fin cfg0.N) (s : Scr F) : Scr F :=
  let q := nextQ (grid0.coords t) (iblk m c 0 t) (iblk m c 1 t) (iblk m c 2 t) (iblk m c 3 t) (iblk m c 4 t) s.1
  (q, nextPool (grid0.coords t) q (iblk m c 8 t) (iblk m c 9 t) (iblk m c 10 t) (iblk m c 11 t) (iblk m c 12 t)
      (iblk m c 13 t) (iblk m c 14 t) (iblk m c 15 t) (iblk m c 16 t) s.2.1,
    nextAv (grid0.coords t) (iblk m c 16 t) s.2.2)

/-- The scratch arrays after the first `n` points, from what they held at the start. -/
def scrAt (c : Dev nD) : ℕ → Scr F → Scr F
  | 0, s => s
  | n + 1, s => scrStep m c (pt n) (scrAt c n s)

/-- The pooled rows once every point has run. -/
def pooled (c : Dev nD) : Vec F S1024x512 .f32 := fun y =>
  pooledOf m c (pt ((y 0).val / 64)) (rowsOf (grid0.coords (pt ((y 0).val / 64))) (queries m c (pt 0)))
    (ValueIdx.ix2 ⟨(y 0).val % 64, Nat.mod_lt _ (by decide)⟩ (y 1))

/-- The validity column once every point has run. -/
def valids (c : Dev nD) : Vec F S16x1 .f32 := fun y => validOf m c (pt (y 0).val) (ValueIdx.ix2 0 0)

/-- The folded queries after one more point. -/
theorem scrAt_queries (c : Dev nD) (s : Scr F) (n : ℕ) : (scrAt m c (n + 1) s).1
    = nextQ (grid0.coords (pt n)) (iblk m c 0 (pt n)) (iblk m c 1 (pt n)) (iblk m c 2 (pt n)) (iblk m c 3 (pt n))
        (iblk m c 4 (pt n)) (scrAt m c n s).1 := rfl

/-- From the first point on the folded queries stand. -/
theorem scr_queries (c : Dev nD) (s : Scr F) : ∀ n, n < 16 → (scrAt m c (n + 1) s).1 = queries m c (pt 0)
  | 0, _ => by
    rw [scrAt_queries]
    unfold nextQ
    rw [if_pos ((first_iff _).mpr (coord_pt (by decide)))]
    rfl
  | n + 1, h => by
    rw [scrAt_queries]
    unfold nextQ
    rw [if_neg fun h' => by have := (first_iff _).mp h'; rw [coord_pt h] at this; omega]
    exact scr_queries c s n (by omega)

/-- After `n` points the first `n` blocks of 64 rows are the pooled ones. -/
theorem scr_pooled (c : Dev nD) (s : Scr F) : ∀ n, n ≤ 16 → ∀ y : S1024x512.Idx, (y 0).val < 64 * n →
    (scrAt m c n s).2.1 y = pooled m c y
  | 0, _, y, hy => by omega
  | n + 1, h, y, hy => by
    have hc : (grid0.coords (pt n) 0).val = n := coord_pt (by omega)
    have h1 : (y 1).val < 512 := (y 1).isLt
    have e : (scrAt m c (n + 1) s).2.1
        = VecWindow.put (scrAt m c n s).2.1 (k0_off1 (grid0.coords (pt n))) S64x512.size
            (pooledOf m c (pt n) (rowsOf (grid0.coords (pt n)) (scrAt m c (n + 1) s).1)) := rfl
    rw [e, scr_queries m c s n (by omega), VecWindow.put]
    by_cases hn : 64 * n ≤ (y 0).val
    · have hd : (y 0).val / 64 = n := by omega
      rw [dif_pos (by
        intro a
        rw [k0_off1_eq, hc]
        match a with
        | 0 => exact ⟨hn, hy⟩
        | 1 => exact ⟨Nat.zero_le _, by show (y 1).val < 0 + 512; omega⟩)]
      unfold pooled
      rw [hd]
      refine congrArg _ (funext fun a => Fin.ext ?_)
      match a with
      | 0 =>
        show (y 0).val - k0_off1 (grid0.coords (pt n)) 0 = (y 0).val % 64
        rw [k0_off1_eq, hc]
        show (y 0).val - 64 * n = _
        omega
      | 1 =>
        show (y 1).val - k0_off1 (grid0.coords (pt n)) 1 = (y 1).val
        rw [k0_off1_eq]
        rfl
    · rw [dif_neg (by
        intro h'
        have := (h' 0).1
        rw [k0_off1_eq, hc] at this
        exact hn this)]
      exact scr_pooled c s n (by omega) y (by omega)

/-- After `n` points the first `n` validity entries are the final ones. -/
theorem scr_valids (c : Dev nD) (s : Scr F) : ∀ n, n ≤ 16 → ∀ y : S16x1.Idx, (y 0).val < n →
    (scrAt m c n s).2.2 y = valids m c y
  | 0, _, y, hy => by omega
  | n + 1, h, y, hy => by
    have hc : (grid0.coords (pt n) 0).val = n := coord_pt (by omega)
    have h1 : (y 1).val < 1 := (y 1).isLt
    have e : (scrAt m c (n + 1) s).2.2
        = VecWindow.put (scrAt m c n s).2.2 (k0_off2 (grid0.coords (pt n))) S1x1.size (validOf m c (pt n)) := rfl
    rw [e, VecWindow.put]
    by_cases hn : (y 0).val = n
    · rw [dif_pos (by
        intro a
        rw [k0_off2_eq, hc]
        match a with
        | 0 => exact ⟨hn.ge, by show (y 0).val < n + 1; omega⟩
        | 1 => exact ⟨Nat.zero_le _, by show (y 1).val < 0 + 1; omega⟩)]
      have hv : valids m c y = validOf m c (pt n) (ValueIdx.ix2 0 0) := by unfold valids; rw [hn]
      rw [hv]
      refine congrArg _ (funext fun a => Fin.ext ?_)
      match a with
      | 0 =>
        show (y 0).val - k0_off2 (grid0.coords (pt n)) 0 = 0
        rw [k0_off2_eq, hc]
        show (y 0).val - n = _
        omega
      | 1 =>
        show (y 1).val - k0_off2 (grid0.coords (pt n)) 1 = 0
        rw [k0_off2_eq]
        show (y 1).val - 0 = 0
        omega
    · rw [dif_neg (by
        intro h'
        have := (h' 0).1
        rw [k0_off2_eq, hc] at this
        exact hn (Nat.le_antisymm (by omega) this))]
      exact scr_valids c s n (by omega) y (by omega)

/-- After the last point the scratch arrays hold what the arguments determine, whatever they held at the start. -/
theorem scr_end (c : Dev nD) (s : Scr F) : scrAt m c 16 s = (queries m c (pt 0), pooled m c, valids m c) :=
  Prod.ext (scr_queries m c s 15 (by decide))
    (Prod.ext (funext fun y => scr_pooled m c s 16 le_rfl y (y 0).isLt)
      (funext fun y => scr_valids m c s 16 le_rfl y (y 0).isLt))

end Cert.Pooler
-- ==== Proof.Launch.lean ====
/- The proof data of the launch: what every window and scratch array holds at every grid point, the body obligation,
   and the run of @main. -/
module

public import proofs.«01_k».proof.Proof.Body
public import proofs.«01_k».proof.Proof.State
public import Idealize.ShloMosaic.Lib.Pipeline.TableIdle

@[expose] public section

set_option maxRecDepth 16384

noncomputable section

namespace Cert.Pooler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch memrefs, whole. -/
abbrev scr0 : Memref sig .tc .vmem S1024x512 .f32 := Memref.whole cc0_scratch0
abbrev scr1 : Memref sig .tc .vmem S1024x512 .f32 := Memref.whole cc0_scratch1
abbrev scr2 : Memref sig .tc .vmem S16x1 .f32 := Memref.whole cc0_scratch2

/-- What a core holds between points besides the windows, spelt out: the three scratch arrays and the generator
    register, each at anything. -/
theorem rest_eq (c : Dev nD) : (Pipeline.ΦA spec0 c : sProp 𝕄)
    = iprop(((∃ d, owns (c : Thread nD τ) scr0 fullShare d) ∗ (∃ d, owns (c : Thread nD τ) scr1 fullShare d)
        ∗ (∃ d, owns (c : Thread nD τ) scr2 fullShare d)) ∗ ∃ r, prngReg c r) := by
  unfold Pipeline.ΦA
  rw [scopedRest0_eq]
  simp only [scr0, scr1, scr2, owns_whole]
  try rfl

/-- The first result as the last point leaves it. -/
def outBlock (c : Dev nD) : Vec F S16x64x512 .f32 :=
  k0_pay3 (pooled m c) (iblk m c 5 (pt 15)) (iblk m c 6 (pt 15)) (iblk m c 7 (pt 15)) (valids m c)

/-- The second result as the last point leaves it. -/
def maskBlock (c : Dev nD) : Vec F S16x64 .f32 := k0_pay2 (k0_pay4 (valids m c)) k0_pay5 k0_pay6

/-- What the core holds after `n` points besides the windows: the scratch arrays as `n` points leave them. -/
def held (c : Dev nD) (n : ℕ) : sProp 𝕄 :=
  iprop((∃ s : Scr F, owns (c : Thread nD τ) scr0 fullShare (scrAt m c n s).1
      ∗ owns (c : Thread nD τ) scr1 fullShare (scrAt m c n s).2.1
      ∗ owns (c : Thread nD τ) scr2 fullShare (scrAt m c n s).2.2) ∗ ∃ r, prngReg c r)

/-- The proof data of the one launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outBlock m c
    | ⟨18, _⟩ => maskBlock m c
    | ⟨_ + 19, h⟩ => absurd h (Nat.not_lt.2 (Nat.le_add_left _ _))
  Φ t := held m c t.val
  q w := Pipeline.shareOf spec0 w
  owed _ := 0

/-- The data's arrays are those the launch finds. -/
theorem A_eq (c : Dev nD) (w : Fin cfg0.W) : (dats m 0 c).A w = V m c (Pipeline.arrRef spec0 w) := rfl

/-- Before each point the body finds in an operand's buffer the operand's block. -/
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d
theorem before_16 (c : Dev nD) (t : Fin cfg0.N) (d) : (dats m 0 c).before 16 t d = iblk m c 16 t :=
  before0_16_of m (dats m 0 c) (A_eq m c 16) (fun _ => rfl) t d

/-- A result window is idle before the last point. -/
theorem idle_out (t : Fin cfg0.N) (h : ¬ Last (grid0.coords t)) :
    cfg0.idle 17 (grid0.coords t) = true ∧ cfg0.idle 18 (grid0.coords t) = true := by
  have e : (!(k0_cond2 (grid0.coords t) == 1#1)) = true := by
    rw [Bool.not_eq_true', beq_eq_false_iff_ne]; exact h
  exact ⟨e, e⟩

/-- And at work at the last one. -/
theorem live_out (t : Fin cfg0.N) (h : Last (grid0.coords t)) :
    cfg0.idle 17 (grid0.coords t) = false ∧ cfg0.idle 18 (grid0.coords t) = false := by
  have e : (!(k0_cond2 (grid0.coords t) == 1#1)) = false := by
    rw [Bool.not_eq_false', beq_iff_eq]; exact h
  exact ⟨e, e⟩

/-- The last point is number 15. -/
theorem last_pt (t : Fin cfg0.N) : Last (grid0.coords t) ↔ t.val = 15 := by
  rw [last_iff, coord_val]

/-- The grid has 16 points. -/
theorem N_eq : cfg0.N = 16 := N_0

/-- The first result's buffer is written back at the last point only. -/
theorem flush_17 (t : Fin cfg0.N) (h : ¬ Last (grid0.coords t)) : (cfg0.win 17).flush t = false := by
  have := t.isLt; have := N_eq
  rw [← Bool.not_eq_true, flush0_17]; rw [last_pt] at h; omega

/-- And so is the second result's. -/
theorem flush_18 (t : Fin cfg0.N) (h : ¬ Last (grid0.coords t)) : (cfg0.win 18).flush t = false := by
  have := t.isLt; have := N_eq
  rw [← Bool.not_eq_true, flush0_18]; rw [last_pt] at h; omega

/-- Up to the last point the body has stored nothing in the result buffers. -/
theorem fresh_out (w : Fin cfg0.W) (hw : ∀ t : Fin cfg0.N, ¬ Last (grid0.coords t) → cfg0.idle w (grid0.coords t) = true) :
    ∀ n, n < 16 → cfg0.fresh w n = true
  | 0, _ => Pipeline.Cfg.fresh_zero cfg0 w
  | n + 1, h => by
    have hn : n < cfg0.N := by rw [N_eq]; omega
    rw [Pipeline.Cfg.fresh_succ cfg0 w n hn, fresh_out w hw n (by omega),
      hw ⟨n, hn⟩ (by rw [last_pt]; show ¬ n = 15; omega)]
    simp

/-- Before a point the first result's buffer holds what it held. -/
theorem before_17 (c : Dev nD) (t : Fin cfg0.N) (d) : (dats m 0 c).before 17 t d = d := by
  have hf : ∀ u : Fin cfg0.N, cfg0.fresh 17 u.val = true := fun u =>
    fresh_out 17 (fun t h => (idle_out t h).1) u.val (lt_of_lt_of_eq u.isLt N_eq)
  rw [(dats m 0 c).before_out_traj 17 rfl (fun _ _ => rfl) (fun u _ _ h => by rw [hf u] at h; cases h) t.val t rfl d,
    if_pos (hf t)]

/-- And so does the second result's. -/
theorem before_18 (c : Dev nD) (t : Fin cfg0.N) (d) : (dats m 0 c).before 18 t d = d := by
  have hf : ∀ u : Fin cfg0.N, cfg0.fresh 18 u.val = true := fun u =>
    fresh_out 18 (fun t h => (idle_out t h).2) u.val (lt_of_lt_of_eq u.isLt N_eq)
  rw [(dats m 0 c).before_out_traj 18 rfl (fun _ _ => rfl) (fun u _ _ h => by rw [hf u] at h; cases h) t.val t rfl d,
    if_pos (hf t)]

/-- An input window hands its block back as it found it. -/
theorem leaves_in (c : Dev nD) (t : Fin cfg0.N) (w : Fin cfg0.W) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

/-- The first result's buffer as the step leaves it is as the data say. -/
theorem leaves_17 (c : Dev nD) (t : Fin cfg0.N) (s : Scr F) (y : Vec F S16x64x512 .f32) :
    (owns (c : Thread nD τ) (st0_17 t) fullShare (nextOut (grid0.coords t) (iblk m c 5 t) (iblk m c 6 t) (iblk m c 7 t)
        (scrStep m c t (scrAt m c t.val s)).2.1 (scrStep m c t (scrAt m c t.val s)).2.2 y) : sProp 𝕄)
      ⊢ (dats m 0 c).leavesExact 17 t := by
  by_cases hl : Last (grid0.coords t)
  · obtain rfl : t = pt 15 := Fin.ext ((last_pt t).mp hl)
    rw [leaves_in m c _ 17 (live_out _ hl).1]
    have e := scr_end m c s
    have e' : scrStep m c (pt 15) (scrAt m c (pt 15).val s) = (queries m c (pt 0), pooled m c, valids m c) := e
    rw [e', nextOut, if_pos hl]
    exact Entails.refl _
  · rw [Dat.leavesExact_idle _ 17 t (idle_out t hl).1 (flush_17 t hl), nextOut, if_neg hl]
    iintro H
    iexists y
    rw [before_17]
    iexact H

/-- And the second result's. -/
theorem leaves_18 (c : Dev nD) (t : Fin cfg0.N) (s : Scr F) (y : Vec F S16x64 .f32) :
    (owns (c : Thread nD τ) (st0_18 t) fullShare (nextMask (grid0.coords t) (scrStep m c t (scrAt m c t.val s)).2.2 y) : sProp 𝕄)
      ⊢ (dats m 0 c).leavesExact 18 t := by
  by_cases hl : Last (grid0.coords t)
  · obtain rfl : t = pt 15 := Fin.ext ((last_pt t).mp hl)
    rw [leaves_in m c _ 18 (live_out _ hl).2]
    have e := scr_end m c s
    have e' : scrStep m c (pt 15) (scrAt m c (pt 15).val s) = (queries m c (pt 0), pooled m c, valids m c) := e
    rw [e', nextMask, if_pos hl]
    exact Entails.refl _
  · rw [Dat.leavesExact_idle _ 18 t (idle_out t hl).2 (flush_18 t hl), nextMask, if_neg hl]
    iintro H
    iexists y
    rw [before_18]
    iexact H

/-- What the body is handed at a point; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 8000000 in
/-- The body keeps its obligation at every point: the step functions say what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    show (dats m 0 c).Φ t.castSucc = held m c t.val from rfl,
    show (dats m 0 c).Φ t.succ = held m c (t.val + 1) from rfl]
  rw [leaves_in m c t 0 rfl, leaves_in m c t 1 rfl, leaves_in m c t 2 rfl, leaves_in m c t 3 rfl, leaves_in m c t 4 rfl, leaves_in m c t 5 rfl, leaves_in m c t 6 rfl, leaves_in m c t 7 rfl, leaves_in m c t 8 rfl, leaves_in m c t 9 rfl, leaves_in m c t 10 rfl, leaves_in m c t 11 rfl, leaves_in m c t 12 rfl, leaves_in m c t 13 rfl, leaves_in m c t 14 rfl, leaves_in m c t 15 rfl, leaves_in m c t 16 rfl]
  unfold held
  iintro ⟨⟨⟨%s, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run c (grid0.coords t) _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d17 d18
    (scrAt m c t.val s).1 (scrAt m c t.val s).2.1 (scrAt m c t.val s).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · iexists s
      have e : scrAt m c (t.val + 1) s = scrStep m c t (scrAt m c t.val s) := by
        show scrStep m c (pt t.val) _ = _
        rw [pt_val]
      rw [e]
      isplitl [HS0]; · iexact HS0
      isplitl [HS1]; · iexact HS1
      iexact HS2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iapply (leaves_17 m c t s d17); iexact H17
  · iapply (leaves_18 m c t s d18); iexact H18

/-- The body table's row for the launch is the body at the point's buffers. -/
theorem row_eq (t : Fin cfg0.N) : defs₀ (F := F) .tc cfg0.body (cfg0.bodyArgs t (cfg0.slots t)) = bodyAt0 t := by
  unfold defs₀
  rw [Defs.onTc_tc]

/-- The obligation as the launch asks for it. -/
theorem body_obligation (c : Dev nD) : BodyObligation (dats (F := F) m 0 c) (defs₀ (F := F)) Variants.none () Set.univ := by
  intro t
  rw [bigSep_W0, bigSep_W0, row_eq]
  exact triple_restated (sound_body m c t) rfl .rfl fun _ => .rfl

/-- At the start the scratch arrays hold anything. -/
theorem held_in (c : Dev nD) : Pipeline.ΦA spec0 c ⊢ (dats m 0 c).Φ 0 := by
  rw [show (dats m 0 c).Φ 0 = held m c 0 from rfl, rest_eq, held]
  iintro ⟨⟨⟨%a, Ha⟩, ⟨%b, Hb⟩, ⟨%d, Hd⟩⟩, Hg⟩
  isplitl [Ha Hb Hd]
  · iexists ((a, b, d) : Scr F)
    isplitl [Ha]; · iexact Ha
    isplitl [Hb]; · iexact Hb
    iexact Hd
  iexact Hg

/-- And what they hold at the end is forgotten. -/
theorem held_out (c : Dev nD) : (dats m 0 c).Φ (Fin.last cfg0.N) ⊢ Pipeline.ΦA spec0 c := by
  rw [show (dats m 0 c).Φ (Fin.last cfg0.N) = held m c cfg0.N from rfl, rest_eq, held]
  iintro ⟨⟨%s, Ha, Hb, Hd⟩, Hg⟩
  isplitl [Ha Hb Hd]
  · isplitl [Ha]; · iexists _; iexact Ha
    isplitl [Hb]; · iexists _; iexact Hb
    iexists _; iexact Hd
  iexact Hg

set_option backward.isDefEq.respectTransparency.types false in
set_option maxHeartbeats 800000 in
/-- The launch: every run of @main ends, with every array at what the data say and every counter at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m)
    (opss := [hostOps1]) (hsub := sfx_sub) (hfresh := sfx_fresh) (hkeep := sfx_keeps) (hmain := hmain m Variants.none)
    (hA := A_eq m) (hin := held_in m) (hout := held_out m) (hQ' := fun _ h => h)

end Cert.Pooler
-- ==== Proof.Frames.lean ====
/- The kernel ends with its arguments unchanged and its counters at zero, at any reading of the floats and of the
   named constant. -/
module

public import proofs.«01_k».proof.Proof.Launch
public import Idealize.ShloMosaic.Lib.Claim

@[expose] public section

set_option maxRecDepth 16384

noncomputable section

namespace Cert.Pooler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Every run of @main ends, its argument arrays unchanged and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨h.1, h.2.2⟩)
    (θ_run_and (frame_of m ρ (dats m) (A_eq m) ((θ_run defs _ _).mono (fun _ h => h.1) (run_main m ρ))) (run_main m ρ))

end Cert.Pooler
-- ==== Proof.Transport.lean ====
/- The kernel as it stands (without the named constant) is the kernel with the named constant read as its own bits:
   so what is proved of the latter at any reading holds of the former. -/
module

public import proofs.«01_k».proof.Defs
public import proofs.«01_k».proof.Proof.Gen.Kernel
public import proofs.«01_k».proof.Proof.Frames

@[expose] public section

set_option maxRecDepth 65536

noncomputable section

namespace Cert.Pooler

open Idealize.ShloMosaic Idealize.ShloMosaic.TcCoe Idealize.SL.Sem

/-- The reading that gives a named constant the bits it is printed with. -/
@[instance_reducible] def bitsNamed : Named Bits := ⟨fun _ _ {φ} b => Scalar.ofBits φ b⟩

attribute [local instance] bitsNamed

variable [h1 : Cert.Kernel.Facts] [h2 : Cert.KernelIdeal.Facts]

/-- The two kernel bodies agree. -/
theorem body_same : @Cert.Kernel.cc0_latent_pooler_fused Bits _ h1
    = @Cert.KernelIdeal.cc0_latent_pooler_fused Bits _ bitsNamed h2 := rfl

/-- The two programs around them agree. -/
theorem main_same : @Cert.Kernel.main Bits _ h1 = @Cert.KernelIdeal.main Bits _ h2 := rfl

set_option maxHeartbeats 4000000 in
/-- The tables of kernel bodies agree. -/
theorem table_same : @Cert.Kernel.defs₀ Bits _ h1 = @Cert.KernelIdeal.defs₀ Bits _ bitsNamed h2 := by
  unfold Cert.Kernel.defs₀ Cert.KernelIdeal.defs₀
  refine congrArg Defs.onTc ?_
  funext l a
  match l, a with
  | 0, (t, s) =>
    show Cert.Kernel.cc0_latent_pooler_fused _ _ _ _ _ _ _ _ _ _ _ _ _ _ _ _ _ _ _ _ _ _ _ _ _ _ _ _ _ _ _ _ _ _ _ _ _ _ _ _ _ _ _ _ _
      = Cert.KernelIdeal.cc0_latent_pooler_fused _ _ _ _ _ _ _ _ _ _ _ _ _ _ _ _ _ _ _ _ _ _ _ _ _ _ _ _ _ _ _ _ _ _ _ _ _ _ _ _ _ _ _ _ _
    rw [body_same]
    rfl

/-- The definitions the programs run with agree. -/
theorem defs_same : @Cert.Kernel.defs Bits _ h1 = @Cert.KernelIdeal.defs Bits _ bitsNamed h2 := by
  unfold Cert.Kernel.defs Cert.KernelIdeal.defs
  rw [table_same]
  rfl

/-- The kernel as it stands ends with its arguments unchanged and its counters at zero. -/
theorem printed_frame (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) := by
  rw [defs_same, main_same]
  exact kernel_frame (F := Bits) m ρ

end Cert.Pooler
-- ==== Proof.RefFrame.lean ====
/- The reference ends with its arguments unchanged; it has no semaphore, so every counter is at zero. -/
module

public import proofs.«01_k».proof.Proof.Gen.ReferenceIdeal.Run
public import Idealize.ShloMosaic.Lib.Claim
public import Idealize.ShloMosaic.Lib.Quiescent

@[expose] public section

set_option maxRecDepth 16384

noncomputable section

namespace Cert.Pooler

open Cert.ReferenceIdeal Cert.ReferenceIdeal.Gen
open Idealize.ShloMosaic Idealize.ShloMosaic.TcCoe Idealize.SL.Sem

variable {F : FTy → Type} [FloatOps F]

/-- Every run of the reference ends, its argument arrays unchanged and every counter at zero. -/
theorem reference_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2, sem_eq_zero_of_no_sems rfl r.2⟩) (Cert.ReferenceIdeal.Value.run m ρ)

end Cert.Pooler
-- ==== Proof.Values.lean ====
/- What the two result arrays hold when @main ends. -/
module

public import proofs.«01_k».proof.Proof.Frames
public import Idealize.ShloMosaic.Lib.Pipeline.ValueKit

@[expose] public section

set_option maxRecDepth 16384

noncomputable section

namespace Cert.Pooler

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The launch's first result array ends as the last point leaves it. -/
theorem out17 : (dats m 0 c).arrAt 17 cfg0.N = outBlock m c := by
  refine (dats m 0 c).arrAt_eq_of_after_last 17 t0_15 (by decide +kernel) _ fun j => ?_
  blk_simp
  rfl

/-- The data of the launch say so of its second result's buffer. -/
theorem after_18 (t : Fin cfg0.N) : (dats m 0 c).after 18 t = maskBlock m c := by
  dsimp only [dats]

/-- And so does its second. -/
theorem out18 : (dats m 0 c).arrAt 18 cfg0.N = maskBlock m c := by
  refine (dats m 0 c).arrAt_eq_of_after_last 18 t0_15 (by decide +kernel) _ fun j => ?_
  blk_simp
  exact congrFun (after_18 m c t0_15) j

/-- Two windows on one array are operands. -/
theorem shared_in : ∀ w w' : Fin cfg0.W, w ≠ w' → Pipeline.arrRef spec0 w = Pipeline.arrRef spec0 w' → (cfg0.win w).isOut = false := by
  decide +kernel

/-- The second result of @main: where the launch's second result isn't zero. -/
theorem result9 : Pipeline.afterTail₀ cfgs (dats m) 0 (V0 m) [hostOps1] c main_v9
    = cmpf .une (maskBlock m c) (broadcastInDim S16x64 ![] bcast_S_S16x64 (constant S_ FTy.f32 0#32)) := by
  change StableHlo.after hostOps1
    (Pipeline.withArrays (cfgs 0).spec c (V0 m c) fun w => (dats m 0 c).arrAt w (cfgs 0).N) _ = _
  entry_read
  exact congrArg (fun x => cmpf .une x _) ((Pipeline.withArrays_arr_shared _ c _ _ (fun w w' h e =>
    ((dats m 0 c).arrAt_in w (shared_in w w' h e) _).trans (A_eq m c w)) 18).trans (out18 m c))

/-- Every run of @main ends with these results, its arguments unchanged. -/
theorem kernel_values : θ_run defs (onTc (τ := τ) (main (F := Ideal))) ⟨m, fun _ => 0, ρ⟩ (fun r => ∀ c : Dev nD,
      r.2.mem ((c.tc : Thread nD τ).loc main_v6_0) = outBlock m c
      ∧ r.2.mem ((c.tc : Thread nD τ).loc main_v9)
        = cmpf .une (maskBlock m c) (broadcastInDim S16x64 ![] bcast_S_S16x64 (constant S_ FTy.f32 0#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.2.1 c).1 17).trans (out17 m c),
      ((h.2.1 c).2 main_v9 (Pipeline.mem_restRefs_of main_v9 (by decide) (by decide))).trans (result9 m c), h.1.1 c⟩)
    (θ_run_and (kernel_frame m ρ) (run_main m ρ))

end Cert.Pooler
-- ==== Proof.RefValue.lean ====
/- The reference, one stage at a time, read at an index: each stage as a formula over the arguments or over the stages
   before it. -/
module

public import proofs.«01_k».proof.Proof.Gen.ReferenceIdeal.Read
public import Idealize.ShloMosaic.Lib.Pointwise

@[expose] public section

set_option maxRecDepth 16384

noncomputable section

namespace Cert.Pooler.Ref

open Cert.ReferenceIdeal Cert.ReferenceIdeal.Gen Cert.ReferenceIdeal.Read
open Idealize.ShloMosaic

/-- The row maximum of the reference, over any scores. -/
theorem row_max (X : FVec Ideal S16x64x4096 .f32) (b : Fin 16) (l : Fin 64) :
    Host.reduce (FloatOps.maximumf (F := Ideal) (φ := .f32)) X (constant S_ .f32 0xFF800000#32) reducesTo_S16x64x4096_S16x64_d2 h_S_ (ix2 b l)
      = Finset.univ.fold max (Ideal.ofBits .f32 0xFF800000#32) fun n : Fin 4096 => X (ix3 b l n) := by
  pointwise

/-- A token under its mask: the token times one minus the padding bit. -/
theorem tokens_apply (x1 : (⟨S16x4096x512, .f32⟩ : BufTy).Contents (Elt Ideal)) (x2 : (⟨S16x4096, .i1⟩ : BufTy).Contents (Elt Ideal)) (b : Fin 16) (n : Fin 4096) (d : Fin 512) :
    val_main_v4 (F := Ideal) x1 x2 (ix3 b n d)
      = x1 (ix3 b n d) * FloatOps.uitofp (F := Ideal) .f32 (~~~x2 (ix2 b n)) := by
  pointwise [val_main_v4, val_main_v3, val_main_v2, val_main_v1, val_main_v0]

/-- The query of a latent in a batch row. -/
theorem query_apply (x0 : (⟨S16x512, .f32⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (b : Fin 16) (l : Fin 64) (e : Fin 512) :
    val_main_v13 (F := Ideal) x0 x3 x4 x5 (ix3 b l e)
      = x3 (ix2 l e) + (∑ x, x0 (ix2 b x) * x4 (ix2 x e) + x5 (ix1 e)) := by
  pointwise [val_main_v13, val_main_v12, val_main_v11, val_main_v10, val_main_v9, val_main_v8, val_main_v7, val_main_v6, val_main_v5]

/-- The key of a token. -/
theorem key_apply (x1 : (⟨S16x4096x512, .f32⟩ : BufTy).Contents (Elt Ideal)) (x2 : (⟨S16x4096, .i1⟩ : BufTy).Contents (Elt Ideal)) (x6 : (⟨S512x512, .f32⟩ : BufTy).Contents (Elt Ideal)) (x7 : (⟨S512, .f32⟩ : BufTy).Contents (Elt Ideal)) (b : Fin 16) (n : Fin 4096) (e : Fin 512) :
    val_main_v17 (F := Ideal) x1 x2 x6 x7 (ix3 b n e)
      = ∑ x, val_main_v4 x1 x2 (ix3 b n x) * x6 (ix2 x e) + x7 (ix1 e) := by
  pointwise [val_main_v17, val_main_v16, val_main_v15, val_main_v14]

/-- The value of a token, under its mask. -/
theorem value_apply (x1 : (⟨S16x4096x512, .f32⟩ : BufTy).Contents (Elt Ideal)) (x2 : (⟨S16x4096, .i1⟩ : BufTy).Contents (Elt Ideal)) (x8 : (⟨S512x512, .f32⟩ : BufTy).Contents (Elt Ideal)) (x9 : (⟨S512, .f32⟩ : BufTy).Contents (Elt Ideal)) (b : Fin 16) (n : Fin 4096) (e : Fin 512) :
    val_main_v23 (F := Ideal) x1 x2 x8 x9 (ix3 b n e)
      = (∑ x, val_main_v4 x1 x2 (ix3 b n x) * x8 (ix2 x e) + x9 (ix1 e)) * FloatOps.uitofp (F := Ideal) .f32 (~~~x2 (ix2 b n)) := by
  pointwise [val_main_v23, val_main_v22, val_main_v21, val_main_v20, val_main_v19, val_main_v18, val_main_v2, val_main_v1, val_main_v0]

/-- The scaled score of a token under a latent. -/
theorem score_apply (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (l : Fin 64) (n : Fin 4096) :
    val_main_v26 (F := Ideal) x0 x1 x2 x3 x4 x5 x6 x7 (ix3 b l n)
      = (∑ x, val_main_v13 x0 x3 x4 x5 (ix3 b l x) * val_main_v17 x1 x2 x6 x7 (ix3 b n x)) * Ideal.ofBits .f32 0x3D3504F3#32 := by
  pointwise [val_main_v26, val_main_v25, val_main_cst, val_main_v24]

/-- The masked score: −∞ at a padded token of a batch row that has an unpadded one. -/
theorem masked_apply (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (l : Fin 64) (n : Fin 4096) :
    val_main_v33 (F := Ideal) x0 x1 x2 x3 x4 x5 x6 x7 (ix3 b l n)
      = Scalar.select (IntOp.andi (x2 (ix2 b n)) (~~~val_main_v27 x2 (ix1 b))) (Ideal.ofBits .f32 0xFF800000#32) (val_main_v26 x0 x1 x2 x3 x4 x5 x6 x7 (ix3 b l n)) := by
  pointwise [val_main_v33, val_main_call0_v2, val_main_call0_v1, val_main_call0_v0, val_main_cst_0, val_main_v32, val_main_v31, val_main_v30, val_main_v29, val_main_v28]
  rfl

/-- The maximum the softmax subtracts. -/
theorem top_apply (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (l : Fin 64) :
    val_main_v36 (F := Ideal) x0 x1 x2 x3 x4 x5 x6 x7 (ix2 b l)
      = max (Ideal.ofBits .f32 0xFF800000#32) (Finset.univ.fold max (Ideal.ofBits .f32 0xFF800000#32) fun n : Fin 4096 => val_main_v33 x0 x1 x2 x3 x4 x5 x6 x7 (ix3 b l n)) := by
  rw [val_main_v36_apply, val_main_v35_apply, val_main_v34, val_main_cst_1]
  exact congrArg (max (Ideal.ofBits .f32 0xFF800000#32)) (row_max _ b l)

/-- The pooled value: the softmax of the masked scores, applied to the values. -/
theorem pooled_apply (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (b : Fin 16) (l : Fin 64) (e : Fin 512) :
    val_main_v45 (F := Ideal) x0 x1 x2 x3 x4 x5 x6 x7 x8 x9 (ix3 b l e)
      = ∑ n, Ideal.div (Ideal.exp (val_main_v33 x0 x1 x2 x3 x4 x5 x6 x7 (ix3 b l n) - val_main_v36 x0 x1 x2 x3 x4 x5 x6 x7 (ix2 b l)))
          (∑ k, Ideal.exp (val_main_v33 x0 x1 x2 x3 x4 x5 x6 x7 (ix3 b l k) - val_main_v36 x0 x1 x2 x3 x4 x5 x6 x7 (ix2 b l)))
          * val_main_v23 x1 x2 x8 x9 (ix3 b n e) := by
  pointwise [val_main_v45, val_main_v44, val_main_v43, val_main_v42, val_main_v41, val_main_cst_3, val_main_v40, val_main_v39, val_main_v38, val_main_v37]

/-- The first result: the pooled value, normalized, weighed, and zero in a batch row that is all padding. -/
theorem result_apply (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512, .f32⟩ : BufTy).Contents (Elt Ideal)) (b : Fin 16) (l : Fin 64) (e : Fin 512) :
    val_main_v63 (F := Ideal) x0 x1 x2 x3 x4 x5 x6 x7 x8 x9 x10 (ix3 b l e)
      = val_main_v45 x0 x1 x2 x3 x4 x5 x6 x7 x8 x9 (ix3 b l e)
        * Ideal.rsqrt (Ideal.div (∑ k, val_main_v45 x0 x1 x2 x3 x4 x5 x6 x7 x8 x9 (ix3 b l k) * val_main_v45 x0 x1 x2 x3 x4 x5 x6 x7 x8 x9 (ix3 b l k)) (Ideal.ofBits .f32 0x44000000#32)
            + Ideal.ofBits .f32 0x358637BD#32)
        * x10 (ix1 e) * FloatOps.uitofp (F := Ideal) .f32 (~~~val_main_v27 x2 (ix1 b)) := by
  pointwise [val_main_v63, val_main_v62, val_main_v61, val_main_v60, val_main_v59, val_main_v58, val_main_v57, val_main_v56, val_main_v55, val_main_v54, val_main_v53, val_main_v52, val_main_v51, val_main_cst_6, val_main_v50, val_main_v49, val_main_cst_5, val_main_v48, val_main_v47, val_main_cst_4, val_main_v46, val_main_v28]

/-- The second result: whether the batch row is all padding. -/
theorem flag_apply (x2 : (⟨S16x4096, .i1⟩ : BufTy).Contents (Elt Ideal)) (b : Fin 16) (l : Fin 64) :
    val_main_v64 (F := Ideal) x2 (ix2 b l)
      = val_main_v27 x2 (ix1 b) := by
  pointwise [val_main_v64, val_main_v28]

/-- A conjunction of bits is set exactly when every bit is. -/
theorem fold_andi {ι : Type} (f : ι → BitVec 1) (t : Finset ι) : t.fold IntOp.andi 1#1 f = 1#1 ↔ ∀ i ∈ t, f i = 1#1 := by
  classical
  induction t using Finset.induction_on with
  | empty => simp
  | insert a t ha ih => rw [Finset.fold_insert ha, IntOp.andi_eq_one, ih, Finset.forall_mem_insert]

/-- The conjunction of a batch row's padding bits is set exactly when every bit is. -/
theorem allPad_iff (x2 : (⟨S16x4096, .i1⟩ : BufTy).Contents (Elt Ideal)) (b : Fin 16) :
    val_main_v27 (F := Ideal) x2 (ix1 b) = 1#1 ↔ ∀ n : Fin 4096, x2 (ix2 b n) = 1#1 := by
  pointwise [val_main_v27, val_main_c]
  rw [fold_andi]
  exact ⟨fun h n => h n (Finset.mem_univ n), fun h n _ => h n⟩

end Cert.Pooler.Ref
-- ==== Proof.SoftMean.lean ====
/- The mathematics of one row of attention weights, over the extended reals: a softmax over scores of which the padded
   ones are −∞, computed in chunks or at once, is one ratio of two finite real sums as soon as one score is not padded. -/
module

public import Idealize.ShloMosaic.PureOps.Ideal
public import Idealize.ShloMosaic.PureOps.IdealRules
public import Mathlib.Algebra.BigOperators.Fin

@[expose] public section

noncomputable section

namespace Cert.Pooler

open Idealize.ShloMosaic

/-- A finite sum of reals, read in the extended reals, is the sum of the terms read there. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The score of a key under its padding bit: −∞ where the bit is set. -/
def masked (p : BitVec 1) (s : ℝ) : EReal := if p = 1#1 then ⊥ else (s : EReal)

/-- The unnormalized weight of a key under its padding bit: nothing where the bit is set. -/
def wt (p : BitVec 1) (s : ℝ) : ℝ := if p = 1#1 then 0 else Real.exp s

/-- A weight is nonnegative. -/
theorem wt_nonneg (p : BitVec 1) (s : ℝ) : 0 ≤ wt p s := by
  unfold wt; split
  · exact le_rfl
  · exact (Real.exp_pos s).le

/-- Adding a constant to a score scales its weight. -/
theorem wt_add (p : BitVec 1) (s c : ℝ) : wt p (s + c) = wt p s * Real.exp c := by
  unfold wt; split
  · rw [zero_mul]
  · rw [Real.exp_add]

/-- A masked score below a real, exponentiated, is the weight scaled by the exponential of minus that real. -/
theorem exp_masked_sub (p : BitVec 1) (s a : ℝ) :
    Ideal.exp (masked p s - (a : EReal)) = ((wt p s * Real.exp (-a) : ℝ) : EReal) := by
  unfold masked wt; split
  · rw [zero_mul, EReal.bot_sub, Ideal.exp_bot, EReal.coe_zero]
  · rw [← EReal.coe_sub, Ideal.exp_coe, sub_eq_add_neg, Real.exp_add]

/-- A maximum from −∞ of masked scores: either −∞, and every key is padded, or a real, and some key is not. -/
theorem fold_max_masked {n : ℕ} (p : Fin n → BitVec 1) (s : Fin n → ℝ) :
    ((Finset.univ.fold max (⊥ : EReal) fun j => masked (p j) (s j)) = ⊥ ∧ ∀ j, p j = 1#1)
      ∨ ∃ a : ℝ, (Finset.univ.fold max (⊥ : EReal) fun j => masked (p j) (s j)) = (a : EReal) ∧ ∃ j, p j ≠ 1#1 := by
  have e : (Finset.univ.fold max (⊥ : EReal) fun j => masked (p j) (s j)) = Finset.univ.sup fun j => masked (p j) (s j) := rfl
  rw [e]
  by_cases h : ∀ j, p j = 1#1
  · exact Or.inl ⟨Finset.sup_eq_bot_iff _ _ |>.2 fun j _ => by rw [masked, if_pos (h j)], h⟩
  · obtain ⟨j, hj⟩ := not_forall.1 h
    obtain ⟨i, -, hi⟩ := Finset.exists_mem_eq_sup Finset.univ ⟨j, Finset.mem_univ j⟩ fun j => masked (p j) (s j)
    have hle : masked (p j) (s j) ≤ Finset.univ.sup fun j => masked (p j) (s j) := Finset.le_sup (f := fun j => masked (p j) (s j)) (Finset.mem_univ j)
    refine Or.inr ⟨s i, ?_, j, hj⟩
    rw [hi] at hle ⊢
    by_cases hp : p i = 1#1
    · rw [masked, if_neg hj, masked, if_pos hp, le_bot_iff] at hle
      exact absurd hle (EReal.coe_ne_bot _)
    · rw [masked, if_neg hp]

/-- One chunk's part of a weighted sum, rescaled from the chunk's own maximum `mc` to the common real `A`. -/
theorem chunk_sum {n : ℕ} (p : Fin n → BitVec 1) (s : Fin n → ℝ) (t : Fin n → EReal) (τ : Fin n → ℝ)
    (ht : ∀ j, p j ≠ 1#1 → t j = (τ j : EReal)) (mc : EReal)
    (hmc : mc = Finset.univ.fold max (⊥ : EReal) fun j => masked (p j) (s j)) (A : ℝ) :
    Ideal.exp (mc - (A : EReal)) * ∑ j, Ideal.exp (masked (p j) (s j) - mc) * t j
      = ((Real.exp (-A) * ∑ j, wt (p j) (s j) * τ j : ℝ) : EReal) := by
  rcases fold_max_masked p s with ⟨hb, hall⟩ | ⟨a, ha, -⟩
  · rw [hmc, hb, EReal.bot_sub, Ideal.exp_bot, zero_mul]
    have : ∀ j, wt (p j) (s j) * τ j = 0 := fun j => by rw [wt, if_pos (hall j), zero_mul]
    simp [this]
  · have step : ∀ j, Ideal.exp (masked (p j) (s j) - mc) * t j = ((wt (p j) (s j) * Real.exp (-a) * τ j : ℝ) : EReal) := by
      intro j
      rw [hmc, ha, exp_masked_sub]
      by_cases hp : p j = 1#1
      · rw [wt, if_pos hp, zero_mul, zero_mul, EReal.coe_zero, zero_mul]
      · rw [ht j hp, ← EReal.coe_mul]
    rw [Finset.sum_congr rfl fun j _ => step j, sum_coe, hmc, ha, ← EReal.coe_sub, Ideal.exp_coe, ← EReal.coe_mul]
    congr 1
    have : ∀ j, wt (p j) (s j) * Real.exp (-a) * τ j = Real.exp (-a) * (wt (p j) (s j) * τ j) := fun j => by ring
    rw [Finset.sum_congr rfl fun j _ => this j, ← Finset.mul_sum, ← mul_assoc, ← Real.exp_add]
    congr 2; ring

/-- A positive total weight: some key is not padded. -/
theorem wt_sum_pos {ι : Type} [Fintype ι] (p : ι → BitVec 1) (s : ι → ℝ) (h : ∃ j, p j ≠ 1#1) :
    0 < ∑ j, wt (p j) (s j) := by
  obtain ⟨j, hj⟩ := h
  refine Finset.sum_pos' (fun i _ => wt_nonneg _ _) ⟨j, Finset.mem_univ j, ?_⟩
  rw [wt, if_neg hj]; exact Real.exp_pos _

/-- The maximum over a list of values of which none is +∞ and one is not −∞ is a real. -/
theorem real_of_bounds (M : EReal) (h0 : M ≠ ⊥) (h1 : M ≠ ⊤) : ∃ A : ℝ, M = (A : EReal) :=
  ⟨M.toReal, (EReal.coe_toReal h1 h0).symm⟩

/-- Quotients of reals in the extended reals. -/
theorem div_coe_coe (x y : ℝ) (hy : y ≠ 0) : Ideal.div (x : EReal) (y : EReal) = ((x / y : ℝ) : EReal) := by
  rw [Ideal.div_coe hy, ← EReal.coe_mul, mul_one_div]

/-- The softmax mean computed in eight chunks: each chunk summed against its own maximum and rescaled to the common
    maximum `M`, which is a real. The result is the ratio of the two real sums over all chunks. -/
theorem chunked_mean {n : ℕ} (p : Fin 8 → Fin n → BitVec 1) (s : Fin 8 → Fin n → ℝ) (t : Fin 8 → Fin n → EReal)
    (τ : Fin 8 → Fin n → ℝ) (ht : ∀ k j, p k j ≠ 1#1 → t k j = (τ k j : EReal)) (mc : Fin 8 → EReal)
    (hmc : ∀ k, mc k = Finset.univ.fold max (⊥ : EReal) fun j => masked (p k j) (s k j))
    (hex : ∃ k j, p k j ≠ 1#1) (A : ℝ) :
    Ideal.div (∑ k, Ideal.exp (mc k - (A : EReal)) * ∑ j, Ideal.exp (masked (p k j) (s k j) - mc k) * t k j)
        (∑ k, Ideal.exp (mc k - (A : EReal)) * ∑ j, Ideal.exp (masked (p k j) (s k j) - mc k))
      = (((∑ k, ∑ j, wt (p k j) (s k j) * τ k j) / ∑ k, ∑ j, wt (p k j) (s k j) : ℝ) : EReal) := by
  have hnum : ∀ k, Ideal.exp (mc k - (A : EReal)) * ∑ j, Ideal.exp (masked (p k j) (s k j) - mc k) * t k j
      = ((Real.exp (-A) * ∑ j, wt (p k j) (s k j) * τ k j : ℝ) : EReal) :=
    fun k => chunk_sum (p k) (s k) (t k) (τ k) (ht k) (mc k) (hmc k) A
  have hden : ∀ k, Ideal.exp (mc k - (A : EReal)) * ∑ j, Ideal.exp (masked (p k j) (s k j) - mc k)
      = ((Real.exp (-A) * ∑ j, wt (p k j) (s k j) : ℝ) : EReal) := fun k => by
    have := chunk_sum (p k) (s k) (fun _ => 1) (fun _ => 1) (fun _ _ => EReal.coe_one.symm) (mc k) (hmc k) A
    simpa only [mul_one] using this
  rw [Finset.sum_congr rfl fun k _ => hnum k, Finset.sum_congr rfl fun k _ => hden k, sum_coe, sum_coe,
    ← Finset.mul_sum, ← Finset.mul_sum]
  have hpos : 0 < ∑ k, ∑ j, wt (p k j) (s k j) := by
    obtain ⟨k, j, h⟩ := hex
    exact Finset.sum_pos' (fun i _ => Finset.sum_nonneg fun j _ => wt_nonneg _ _)
      ⟨k, Finset.mem_univ k, wt_sum_pos (p k) (s k) ⟨j, h⟩⟩
  rw [div_coe_coe _ _ (mul_ne_zero (Real.exp_ne_zero _) hpos.ne'), mul_div_mul_left _ _ (Real.exp_ne_zero _)]

/-- The maximum of the eight chunk maxima is a real when some key is not padded. -/
theorem top_real {n : ℕ} (p : Fin 8 → Fin n → BitVec 1) (s : Fin 8 → Fin n → ℝ) (mc : Fin 8 → EReal)
    (hmc : ∀ k, mc k = Finset.univ.fold max (⊥ : EReal) fun j => masked (p k j) (s k j))
    (hex : ∃ k j, p k j ≠ 1#1) (M : EReal) (hge : ∀ k, mc k ≤ M) (hmem : ∃ k, M = mc k) : ∃ A : ℝ, M = (A : EReal) := by
  refine real_of_bounds M ?_ ?_
  · obtain ⟨k, j, h⟩ := hex
    rcases fold_max_masked (p k) (s k) with ⟨-, hall⟩ | ⟨a, ha, -⟩
    · exact absurd (hall j) h
    · have := hge k
      rw [hmc, ha] at this
      exact fun e => EReal.coe_ne_bot a (le_bot_iff.1 (e ▸ this))
  · obtain ⟨k, hk⟩ := hmem
    rw [hk, hmc]
    rcases fold_max_masked (p k) (s k) with ⟨hb, -⟩ | ⟨a, ha, -⟩
    · rw [hb]; exact bot_ne_top
    · rw [ha]; exact EReal.coe_ne_top a

/-- The softmax weight computed at once. -/
theorem whole_weight {n : ℕ} (p : Fin n → BitVec 1) (s : Fin n → ℝ) (hex : ∃ j, p j ≠ 1#1) (i : Fin n) :
    Ideal.div (Ideal.exp (masked (p i) (s i) - Finset.univ.fold max (⊥ : EReal) fun j => masked (p j) (s j)))
        (∑ k, Ideal.exp (masked (p k) (s k) - Finset.univ.fold max (⊥ : EReal) fun j => masked (p j) (s j)))
      = ((wt (p i) (s i) / ∑ k, wt (p k) (s k) : ℝ) : EReal) := by
  rcases fold_max_masked p s with ⟨-, hall⟩ | ⟨a, ha, -⟩
  · obtain ⟨j, hj⟩ := hex; exact absurd (hall j) hj
  · rw [ha]
    simp only [exp_masked_sub]
    rw [sum_coe, ← Finset.sum_mul, div_coe_coe _ _ (mul_ne_zero (wt_sum_pos p s hex).ne' (Real.exp_ne_zero _)),
      mul_div_mul_right _ _ (Real.exp_ne_zero _)]

/-- Shifting every score by one constant leaves a weight unchanged. -/
theorem weight_shift {n : ℕ} (p : Fin n → BitVec 1) (s : Fin n → ℝ) (c : ℝ) (i : Fin n) :
    wt (p i) (s i + c) / ∑ k, wt (p k) (s k + c) = wt (p i) (s i) / ∑ k, wt (p k) (s k) := by
  simp only [wt_add]
  rw [← Finset.sum_mul, mul_div_mul_right _ _ (Real.exp_ne_zero _)]

/-- Nonnegative real weights of total one take a constant out of a weighted mean, even an infinite one. -/
theorem weighted_const {n : ℕ} (w : Fin n → ℝ) (hw : ∀ i, 0 ≤ w i) (hs : ∑ i, w i = 1) (y : Fin n → ℝ) (b : EReal) :
    ∑ i, (w i : EReal) * ((y i : EReal) + b) = ((∑ i, w i * y i : ℝ) : EReal) + b := by
  have step : ∀ i, (w i : EReal) * ((y i : EReal) + b) = ((w i * y i : ℝ) : EReal) + (w i : EReal) * b := fun i => by
    rw [EReal.left_distrib_of_nonneg_of_ne_top (EReal.coe_nonneg.2 (hw i)) (EReal.coe_ne_top _), EReal.coe_mul]
  rw [Finset.sum_congr rfl fun i _ => step i, Finset.sum_add_distrib, sum_coe]
  have hb : ∀ s : Finset (Fin n), ∑ i ∈ s, (w i : EReal) * b = ((∑ i ∈ s, w i : ℝ) : EReal) * b := by
    intro s
    classical
    induction s using Finset.induction_on with
    | empty => simp
    | insert a s ha ih =>
      rw [Finset.sum_insert ha, Finset.sum_insert ha, ih, EReal.coe_add,
        EReal.right_distrib_of_nonneg (EReal.coe_nonneg.2 (hw a)) (EReal.coe_nonneg.2 (Finset.sum_nonneg fun i _ => hw i))]
  rw [hb, hs, EReal.coe_one, one_mul]

end Cert.Pooler
-- ==== Proof.Finite.lean ====
/- What the precondition says: every argument it names is finite at every index, the tokens at every unpadded one. -/
module

public import proofs.«01_k».proof.Pre_unpadded_finite
public import Idealize.ShloMosaic.Lib.Pointwise
public import Idealize.ShloMosaic.Lib.ReduceAll
public import Idealize.ShloMosaic.Lib.Decide

@[expose] public section

set_option maxRecDepth 16384

noncomputable section

namespace Cert.Pooler

open Cert.Pre_unpadded_finite
open Idealize.ShloMosaic

/-- The shape relations that the precondition's operations state. -/
theorem pre_facts : Cert.Pre_unpadded_finite.Facts where
  bcast_S16x4096_S16x4096x1_0_1 := by decide
  bcast_S16x4096x1_S16x4096x512_0_1_2 := by decide
  bcast_S_S16x4096x512 := by decide
  bcast_S_S16x512 := by decide
  reducesTo_S16x512_S_d0_1 := by decide
  h_S_ := by decide
  reducesTo_S16x4096x512_S_d0_1_2 := by decide
  bcast_S_S64x512 := by decide
  reducesTo_S64x512_S_d0_1 := by decide
  bcast_S_S512x512 := by decide
  reducesTo_S512x512_S_d0_1 := by decide
  bcast_S_S512 := by decide
  reducesTo_S512_S_d0 := by decide

/-- The pattern of plus infinity. -/
theorem ofBits_top : Ideal.ofBits .f32 0x7F800000#32 = ⊤ := by simp [Ideal.ofBits, Ideal.ieee]

/-- The pattern of minus infinity. -/
theorem ofBits_bot : Ideal.ofBits .f32 0xFF800000#32 = ⊥ := by simp [Ideal.ofBits, Ideal.ieee]

/-- An extended real whose magnitude is below plus infinity is a real. -/
theorem real_of_abs_lt (x : EReal) (h : Ideal.cmp .olt (max x (-x)) ⊤ = 1#1) : ∃ r : ℝ, x = (r : EReal) := by
  have h' : max x (-x) < ⊤ := by
    by_contra hn
    rw [Ideal.cmp, decide_eq_false hn] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

instance : Subsingleton S_.Idx := ⟨fun a b => funext fun k => k.elim0⟩

/-- A conjunction over an array of «the magnitude is below plus infinity» that is set: every element is a real. -/
theorem all_real {s : Shape} {axes : List (Fin s.rank)} (x : FVec Ideal s .f32) (hb : S_.BroadcastsInDim s ![])
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : ∃ r : ℝ, x i = (r : EReal) := by
  have hi := Host.reduce_andi_all _ _ h hu j e i
  refine real_of_abs_lt (x i) ?_
  rw [← ofBits_top]
  exact hi

/-- Two single bits whose conjunction is set are set. -/
theorem andi_split {a b : IVec S_ 1} {j : S_.Idx} (h : andi a b j = 1#1) : a j = 1#1 ∧ b j = 1#1 := IntOp.andi_eq_one.1 h

/-- The precondition, read: the arguments that it names are reals at every index, and the tokens at every unpadded one. -/
theorem reals_of_pre [Cert.Pre_unpadded_finite.Facts] (x0 : FVec Ideal S16x512 .f32) (x1 : FVec Ideal S16x4096x512 .f32) (x2 : IVec S16x4096 1)
    (x3 : FVec Ideal S64x512 .f32) (x4 : FVec Ideal S512x512 .f32) (x5 : FVec Ideal S512 .f32) (x6 : FVec Ideal S512x512 .f32)
    (x7 : FVec Ideal S512 .f32) (x8 : FVec Ideal S512x512 .f32) (x9 x10 : FVec Ideal S512 .f32)
    (h : fn (F := Ideal) x0 x1 x2 x3 x4 x5 x6 x7 x8 x9 x10 = fun _ => 1#1) :
    (∀ i, ∃ r : ℝ, x0 i = (r : EReal)) ∧ (∀ b n d, x2 (ix2 b n) ≠ 1#1 → ∃ r : ℝ, x1 (ix3 b n d) = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have e := congrFun h (fun a => a.elim0)
  dsimp only [fn, fn_part1, fn_part2] at e
  obtain ⟨e, e8⟩ := andi_split e
  obtain ⟨e, e7⟩ := andi_split e
  obtain ⟨e, e6⟩ := andi_split e
  obtain ⟨e, e5⟩ := andi_split e
  obtain ⟨e, e4⟩ := andi_split e
  obtain ⟨e, e3⟩ := andi_split e
  obtain ⟨e0, e1⟩ := andi_split e
  refine ⟨all_real x0 _ _ _ _ e0, fun b n d hp => ?_, all_real x3 _ _ _ _ e3, all_real x4 _ _ _ _ e4, all_real x5 _ _ _ _ e5,
    all_real x6 _ _ _ _ e6, all_real x7 _ _ _ _ e7, all_real x8 _ _ _ _ e8⟩
  have ht := all_real _ _ _ _ _ e1 (ix3 b n d)
  revert ht
  pointwise
  intro ht
  rw [Scalar.select, if_neg (show ¬ x2 (ix2 b n) = 1 from hp)] at ht
  exact ht

end Cert.Pooler
-- ==== Proof.Block.lean ====
/- One block of the kernel over the extended reals: the pooled rows of a batch row, from its folded queries, its padding
   flags and its eight token chunks. -/
module

public import proofs.«01_k».proof.Proof.Step
public import proofs.«01_k».proof.Proof.SoftMean
public import proofs.«01_k».proof.Proof.Finite
public import Idealize.ShloMosaic.Lib.Pointwise

@[expose] public section

set_option maxRecDepth 16384

noncomputable section

namespace Cert.Pooler

open Cert.KernelIdeal Cert.KernelIdeal.Gen
open Idealize.ShloMosaic

/-- The number of a token in its batch row, from its chunk and its place there. -/
def tokenOf (k : Fin 8) (x : Fin 512) : Fin 4096 := ⟨512 * k.val + x.val, by omega⟩

/-- A sum over a batch row's tokens is a sum over its chunks of sums over a chunk's tokens. -/
theorem sum_tokens {M : Type} [AddCommMonoid M] (f : Fin 4096 → M) : ∑ n, f n = ∑ k : Fin 8, ∑ x : Fin 512, f (tokenOf k x) := by
  rw [← Fintype.sum_prod_type' fun k x => f (tokenOf k x)]
  refine ((finProdFinEquiv (m := 8) (n := 512)).sum_comp (f : Fin (8 * 512) → M)).symm.trans (Finset.sum_congr rfl fun a _ => congrArg f (Fin.ext ?_))
  exact Nat.add_comm _ _

/-- Every token lies in a chunk. -/
theorem exists_token {P : Fin 4096 → Prop} (h : ∃ n, P n) : ∃ k x, P (tokenOf k x) := by
  obtain ⟨n, hn⟩ := h
  refine ⟨⟨n.val / 512, by omega⟩, ⟨n.val % 512, Nat.mod_lt _ (by decide)⟩, ?_⟩
  have e : tokenOf ⟨n.val / 512, by omega⟩ ⟨n.val % 512, Nat.mod_lt _ (by decide)⟩ = n := Fin.ext (Nat.div_add_mod n.val 512)
  rw [e]; exact hn

/-- The constant named minus infinity. -/
theorem mask_bot : Named.named (F := Ideal) Cert.KernelIdeal.κ (φ := .f32) "mask" 0xFF61B1E6#32 = (⊥ : EReal) :=
  IdealRules.named_const.ideal_named_scalar _ _ _ _ rfl

/-- The masked score of a token of chunk `k` under a row of queries. -/
def chunkScore (q : Vec Ideal S64x512 .f32) (p : IVec S1x4096 1) (t : FVec Ideal S512x512 .f32) (k : Fin 8) (l : Fin 64) (x : Fin 512) : EReal :=
  Scalar.select (p (ix2 0 (tokenOf k x))) (⊥ : EReal) (∑ d, q (ix2 l d) * t (ix2 x d))

/-- The greatest masked score of a chunk under a row of queries. -/
def chunkTop (q : Vec Ideal S64x512 .f32) (p : IVec S1x4096 1) (t : FVec Ideal S512x512 .f32) (k : Fin 8) (l : Fin 64) : EReal :=
  Finset.univ.fold max (⊥ : EReal) fun x => chunkScore q p t k l x

section Chunks

variable (q : Vec Ideal S64x512 .f32) (p : IVec S1x4096 1) (t : FVec Ideal S512x512 .f32) (l : Fin 64) (x : Fin 512)

/-- The first chunk's scores. -/
theorem score0 : k0_pay17 q p t (ix2 l x) = chunkScore q p t 0 l x := by
  pointwise [k0_pay17, chunkScore]
  rw [mask_bot, show tokenOf 0 x = ⟨x.val, by omega⟩ from Fin.ext (Nat.zero_add x.val)]

/-- The first chunk's greatest score. -/
theorem top0 : k0_pay18 q p t (ix2 l 0) = chunkTop q p t 0 l := by
  pointwise [k0_pay18]
  rw [ofBits_bot]
  exact congrArg (fun f => Finset.univ.fold max (⊥ : EReal) f) (funext fun x => score0 q p t l x)

/-- The second chunk's scores. -/
theorem score1 : k0_pay19 q p t (ix2 l x) = chunkScore q p t 1 l x := by
  pointwise [k0_pay19, chunkScore]
  rw [mask_bot]
  rfl

/-- The second chunk's greatest score. -/
theorem top1 : k0_pay20 q p t (ix2 l 0) = chunkTop q p t 1 l := by
  pointwise [k0_pay20]
  rw [ofBits_bot]
  exact congrArg (fun f => Finset.univ.fold max (⊥ : EReal) f) (funext fun x => score1 q p t l x)

/-- The third chunk's scores. -/
theorem score2 : k0_pay21 q p t (ix2 l x) = chunkScore q p t 2 l x := by
  pointwise [k0_pay21, chunkScore]
  rw [mask_bot]
  rfl

/-- The third chunk's greatest score. -/
theorem top2 : k0_pay22 q p t (ix2 l 0) = chunkTop q p t 2 l := by
  pointwise [k0_pay22]
  rw [ofBits_bot]
  exact congrArg (fun f => Finset.univ.fold max (⊥ : EReal) f) (funext fun x => score2 q p t l x)

/-- The fourth chunk's scores. -/
theorem score3 : k0_pay23 q p t (ix2 l x) = chunkScore q p t 3 l x := by
  pointwise [k0_pay23, chunkScore]
  rw [mask_bot]
  rfl

/-- The fourth chunk's greatest score. -/
theorem top3 : k0_pay24 q p t (ix2 l 0) = chunkTop q p t 3 l := by
  pointwise [k0_pay24]
  rw [ofBits_bot]
  exact congrArg (fun f => Finset.univ.fold max (⊥ : EReal) f) (funext fun x => score3 q p t l x)

/-- The fifth chunk's scores. -/
theorem score4 : k0_pay25 q p t (ix2 l x) = chunkScore q p t 4 l x := by
  pointwise [k0_pay25, chunkScore]
  rw [mask_bot]
  rfl

/-- The fifth chunk's greatest score. -/
theorem top4 : k0_pay26 (k0_pay25 q p t) (ix2 l 0) = chunkTop q p t 4 l := by
  pointwise [k0_pay26]
  rw [ofBits_bot]
  exact congrArg (fun f => Finset.univ.fold max (⊥ : EReal) f) (funext fun x => score4 q p t l x)

/-- The sixth chunk's scores. -/
theorem score5 : k0_pay27 q p t (ix2 l x) = chunkScore q p t 5 l x := by
  pointwise [k0_pay27, chunkScore]
  rw [mask_bot]
  rfl

/-- The sixth chunk's greatest score. -/
theorem top5 : k0_pay28 q p t (ix2 l 0) = chunkTop q p t 5 l := by
  pointwise [k0_pay28]
  rw [ofBits_bot]
  exact congrArg (fun f => Finset.univ.fold max (⊥ : EReal) f) (funext fun x => score5 q p t l x)

/-- The seventh chunk's scores. -/
theorem score6 : k0_pay29 q p t (ix2 l x) = chunkScore q p t 6 l x := by
  pointwise [k0_pay29, chunkScore]
  rw [mask_bot]
  rfl

/-- The seventh chunk's greatest score. -/
theorem top6 : k0_pay30 q p t (ix2 l 0) = chunkTop q p t 6 l := by
  pointwise [k0_pay30]
  rw [ofBits_bot]
  exact congrArg (fun f => Finset.univ.fold max (⊥ : EReal) f) (funext fun x => score6 q p t l x)

/-- The eighth chunk's scores. -/
theorem score7 : k0_pay31 q p t (ix2 l x) = chunkScore q p t 7 l x := by
  pointwise [k0_pay31, chunkScore]
  rw [mask_bot]
  rfl

/-- The eighth chunk's greatest score. -/
theorem top7 : k0_pay32 q p t (ix2 l 0) = chunkTop q p t 7 l := by
  pointwise [k0_pay32]
  rw [ofBits_bot]
  exact congrArg (fun f => Finset.univ.fold max (⊥ : EReal) f) (funext fun x => score7 q p t l x)

end Chunks

/-- The greatest of the eight chunks' greatest scores. -/
def rowTop (q : Vec Ideal S64x512 .f32) (p : IVec S1x4096 1) (t : Fin 8 → FVec Ideal S512x512 .f32) (l : Fin 64) : EReal :=
  max (max (max (max (max (max (max (chunkTop q p (t 0) 0 l) (chunkTop q p (t 1) 1 l)) (chunkTop q p (t 2) 2 l)) (chunkTop q p (t 3) 3 l))
    (chunkTop q p (t 4) 4 l)) (chunkTop q p (t 5) 5 l)) (chunkTop q p (t 6) 6 l)) (chunkTop q p (t 7) 7 l)

/-- No chunk's greatest score exceeds the row's. -/
theorem rowTop_ge (q : Vec Ideal S64x512 .f32) (p : IVec S1x4096 1) (t : Fin 8 → FVec Ideal S512x512 .f32) (l : Fin 64) (k : Fin 8) :
    chunkTop q p (t k) k l ≤ rowTop q p t l := by
  fin_cases k <;> simp [rowTop]

/-- The greatest of two values is one of them. -/
theorem max_mem {a b : EReal} {S : EReal → Prop} (ha : S a) (hb : S b) : S (max a b) := by
  rcases max_choice a b with h | h <;> rw [h] <;> assumption

/-- The row's greatest score is some chunk's. -/
theorem rowTop_mem (q : Vec Ideal S64x512 .f32) (p : IVec S1x4096 1) (t : Fin 8 → FVec Ideal S512x512 .f32) (l : Fin 64) :
    ∃ k, rowTop q p t l = chunkTop q p (t k) k l := by
  have g : ∀ {a b : EReal}, (∃ k, a = chunkTop q p (t k) k l) → (∃ k, b = chunkTop q p (t k) k l) → ∃ k, max a b = chunkTop q p (t k) k l :=
    fun {a b} ha hb => max_mem (S := fun v => ∃ k, v = chunkTop q p (t k) k l) ha hb
  exact g (g (g (g (g (g (g ⟨0, rfl⟩ ⟨1, rfl⟩) ⟨2, rfl⟩) ⟨3, rfl⟩) ⟨4, rfl⟩) ⟨5, rfl⟩) ⟨6, rfl⟩) ⟨7, rfl⟩

/-- The pooled block at an index: eight chunks, each summed against its own greatest score, rescaled and added. -/
theorem pool_apply (q : Vec Ideal S64x512 .f32) (p : IVec S1x4096 1) (t : Fin 8 → FVec Ideal S512x512 .f32) (l : Fin 64) (j : Fin 512) :
    pool q p (t 0) (t 1) (t 2) (t 3) (t 4) (t 5) (t 6) (t 7) (ix2 l j)
      = Ideal.div
          (∑ k, Ideal.exp (chunkTop q p (t k) k l - rowTop q p t l)
            * ∑ x, Ideal.exp (chunkScore q p (t k) k l x - chunkTop q p (t k) k l) * t k (ix2 x j))
          (∑ k, Ideal.exp (chunkTop q p (t k) k l - rowTop q p t l)
            * ∑ x, Ideal.exp (chunkScore q p (t k) k l x - chunkTop q p (t k) k l)) := by
  pointwise [pool, k0_pay52, k0_pay46, k0_pay49, k0_pay50, k0_pay51, k0_pay47, k0_pay48, k0_pay45, k0_pay44, k0_pay43, k0_pay42, k0_pay41, k0_pay40, k0_pay39, k0_pay38, k0_pay37, k0_pay36, k0_pay35, k0_pay34, k0_pay33, topScore]
  simp only [score0, top0, score1, top1, score2, top2, score3, top3, score4, top4, score5, top5, score6, top6, score7, top7]
  rw [Fin.sum_univ_eight, Fin.sum_univ_eight]
  rfl

/-- The softmax mean of one coordinate of the tokens, over the unpadded tokens. -/
def mean (p : Fin 4096 → BitVec 1) (σ : Fin 4096 → ℝ) (y : Fin 4096 → ℝ) : ℝ := (∑ n, wt (p n) (σ n) * y n) / ∑ n, wt (p n) (σ n)

/-- The pooled block is the softmax mean of the tokens, wherever the queries and the unpadded tokens are reals and some token
    is not padded. -/
theorem pool_mean (q : Vec Ideal S64x512 .f32) (p : IVec S1x4096 1) (t : Fin 8 → FVec Ideal S512x512 .f32) (l : Fin 64) (j : Fin 512)
    (u : Fin 512 → ℝ) (hq : ∀ d, q (ix2 l d) = (u d : EReal)) (τ : Fin 4096 → Fin 512 → ℝ)
    (ht : ∀ k x, p (ix2 0 (tokenOf k x)) ≠ 1#1 → ∀ d, t k (ix2 x d) = (τ (tokenOf k x) d : EReal))
    (hex : ∃ n, p (ix2 0 n) ≠ 1#1) :
    pool q p (t 0) (t 1) (t 2) (t 3) (t 4) (t 5) (t 6) (t 7) (ix2 l j)
      = ((mean (fun n => p (ix2 0 n)) (fun n => ∑ d, u d * τ n d) (fun n => τ n j) : ℝ) : EReal) := by
  have hs : ∀ k x, chunkScore q p (t k) k l x = masked (p (ix2 0 (tokenOf k x))) (∑ d, u d * τ (tokenOf k x) d) := by
    intro k x
    unfold chunkScore Scalar.select masked
    by_cases h : p (ix2 0 (tokenOf k x)) = 1#1
    · rw [if_pos h, if_pos (show _ = (1 : BitVec 1) from h)]
    · rw [if_neg h, if_neg (show ¬ _ = (1 : BitVec 1) from h), ← sum_coe]
      exact Finset.sum_congr rfl fun d _ => by rw [hq, ht k x h, EReal.coe_mul]
  have hm : ∀ k, chunkTop q p (t k) k l
      = Finset.univ.fold max (⊥ : EReal) fun x => masked (p (ix2 0 (tokenOf k x))) (∑ d, u d * τ (tokenOf k x) d) := fun k =>
    congrArg (fun f => Finset.univ.fold max (⊥ : EReal) f) (funext fun x => hs k x)
  have hex' : ∃ k x, p (ix2 0 (tokenOf k x)) ≠ 1#1 := exists_token hex
  obtain ⟨A, hA⟩ := top_real _ _ (fun k => chunkTop q p (t k) k l) hm hex' (rowTop q p t l) (rowTop_ge q p t l) (rowTop_mem q p t l)
  rw [pool_apply, hA]
  simp only [hs]
  rw [chunked_mean (fun k x => p (ix2 0 (tokenOf k x))) (fun k x => ∑ d, u d * τ (tokenOf k x) d) (fun k x => t k (ix2 x j))
    (fun k x => τ (tokenOf k x) j) (fun k x h => ht k x h j) (fun k => chunkTop q p (t k) k l) hm hex' A]
  rw [mean, sum_tokens, sum_tokens]

end Cert.Pooler
-- ==== Proof.RefMean.lean ====
/- The reference's pooled value, at real arguments: the softmax mean over the unpadded tokens, projected, plus the bias. -/
module

public import proofs.«01_k».proof.Proof.RefValue
public import proofs.«01_k».proof.Proof.SoftMean
public import proofs.«01_k».proof.Proof.Finite
public import proofs.«01_k».proof.Proof.Block

@[expose] public section

set_option maxRecDepth 16384

noncomputable section

namespace Cert.Pooler.Ref

open Cert.ReferenceIdeal Cert.ReferenceIdeal.Gen Cert.ReferenceIdeal.Read
open Idealize.ShloMosaic

variable (x0 : (⟨S16x512, .f32⟩ : BufTy).Contents (Elt Ideal)) (x1 : (⟨S16x4096x512, .f32⟩ : BufTy).Contents (Elt Ideal)) (x2 : (⟨S16x4096, .i1⟩ : BufTy).Contents (Elt Ideal)) (x3 : (⟨S64x512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal))
  (b : Fin 16) (l : Fin 64)
  (lam : Fin 512 → ℝ) (hlam : ∀ e, val_main_v13 (F := Ideal) x0 x3 x4 x5 (ix3 b l e) = (lam e : EReal))
  (τ : Fin 4096 → Fin 512 → ℝ) (hτ : ∀ n d, val_main_v4 (F := Ideal) x1 x2 (ix3 b n d) = (τ n d : EReal))
  (wk : Fin 512 → Fin 512 → ℝ) (hwk : ∀ d e, x6 (ix2 d e) = (wk d e : EReal))
  (bk : Fin 512 → ℝ) (hbk : ∀ e, x7 (ix1 e) = (bk e : EReal))
  (wv : Fin 512 → Fin 512 → ℝ) (hwv : ∀ d e, x8 (ix2 d e) = (wv d e : EReal))
  (sc : ℝ) (hsc : Ideal.ofBits .f32 0x3D3504F3#32 = (sc : EReal))
  (hex : ∃ n : Fin 4096, x2 (ix2 b n) ≠ 1#1)

/-- The folded query: the scaled latent query against the key projection. -/
def folded (lam : Fin 512 → ℝ) (wk : Fin 512 → Fin 512 → ℝ) (sc : ℝ) (d : Fin 512) : ℝ := ∑ e, lam e * sc * wk d e

/-- The score of a token, without its key bias. -/
def scoreOf (lam : Fin 512 → ℝ) (τ : Fin 4096 → Fin 512 → ℝ) (wk : Fin 512 → Fin 512 → ℝ) (sc : ℝ) (n : Fin 4096) : ℝ :=
  ∑ d, folded lam wk sc d * τ n d

/-- A score is the folded query against the token, plus a constant that the token doesn't enter. -/
theorem score_split (t : Fin 512 → ℝ) : (∑ e, lam e * (∑ d, t d * wk d e + bk e)) * sc
    = ∑ d, folded lam wk sc d * t d + (∑ e, lam e * bk e) * sc := by
  simp only [folded, mul_add, Finset.sum_add_distrib, add_mul, Finset.sum_mul, Finset.mul_sum]
  rw [Finset.sum_comm]
  exact congrArg (· + _) (Finset.sum_congr rfl fun d _ => Finset.sum_congr rfl fun e _ => by ring)

include hlam hτ hwk hbk hsc in
/-- The scaled score, a real. -/
theorem score_real (n : Fin 4096) : val_main_v26 (F := Ideal) x0 x1 x2 x3 x4 x5 x6 x7 (ix3 b l n)
    = ((scoreOf lam τ wk sc n + (∑ e, lam e * bk e) * sc : ℝ) : EReal) := by
  have hk : ∀ e, val_main_v17 (F := Ideal) x1 x2 x6 x7 (ix3 b n e) = ((∑ d, τ n d * wk d e + bk e : ℝ) : EReal) := by
    intro e
    rw [key_apply, hbk, EReal.coe_add, ← sum_coe]
    exact congrArg (· + _) (Finset.sum_congr rfl fun d _ => by rw [hτ, hwk, EReal.coe_mul])
  rw [score_apply, hsc, scoreOf, ← score_split, EReal.coe_mul, ← sum_coe]
  exact congrArg (· * _) (Finset.sum_congr rfl fun e _ => by rw [hlam, hk, EReal.coe_mul])

include hlam hτ hwk hbk hsc hex in
/-- The masked score: −∞ at a padded token, else the score. -/
theorem masked_real (n : Fin 4096) : val_main_v33 (F := Ideal) x0 x1 x2 x3 x4 x5 x6 x7 (ix3 b l n)
    = masked (x2 (ix2 b n)) (scoreOf lam τ wk sc n + (∑ e, lam e * bk e) * sc) := by
  have hnot : val_main_v27 (F := Ideal) x2 (ix1 b) = 0#1 := by
    have h : val_main_v27 (F := Ideal) x2 (ix1 b) ≠ 1#1 := fun h => by
      obtain ⟨n, hn⟩ := hex
      exact hn ((allPad_iff x2 b).mp h n)
    revert h
    generalize val_main_v27 (F := Ideal) x2 (ix1 b) = y
    revert y
    decide
  have hbit : ∀ y : BitVec 1, IntOp.andi y (~~~0#1) = y := by decide
  rw [masked_apply, hnot, hbit, score_real x0 x1 x2 x3 x4 x5 x6 x7 b l lam hlam τ hτ wk hwk bk hbk sc hsc n, ofBits_bot]
  unfold Scalar.select masked
  by_cases h : x2 (ix2 b n) = 1#1
  · rw [if_pos h, if_pos (show _ = (1 : BitVec 1) from h)]
  · rw [if_neg h, if_neg (show ¬ _ = (1 : BitVec 1) from h)]

/-- The weight of a token: its share of the unpadded tokens' exponentiated scores. -/
def share (p : Fin 4096 → BitVec 1) (σ : Fin 4096 → ℝ) (n : Fin 4096) : ℝ := wt (p n) (σ n) / ∑ k, wt (p k) (σ k)

include hlam hτ hwk hbk hsc hex in
/-- The softmax weight of a token is its share. -/
theorem weight_real (n : Fin 4096) :
    Ideal.div (Ideal.exp (val_main_v33 (F := Ideal) x0 x1 x2 x3 x4 x5 x6 x7 (ix3 b l n) - val_main_v36 x0 x1 x2 x3 x4 x5 x6 x7 (ix2 b l)))
      (∑ k, Ideal.exp (val_main_v33 x0 x1 x2 x3 x4 x5 x6 x7 (ix3 b l k) - val_main_v36 x0 x1 x2 x3 x4 x5 x6 x7 (ix2 b l)))
    = (share (fun n => x2 (ix2 b n)) (scoreOf lam τ wk sc) n : EReal) := by
  have hm := masked_real x0 x1 x2 x3 x4 x5 x6 x7 b l lam hlam τ hτ wk hwk bk hbk sc hsc hex
  rw [top_apply, ofBits_bot, max_eq_right bot_le]
  simp only [hm]
  rw [whole_weight (fun n => x2 (ix2 b n)) (fun n => scoreOf lam τ wk sc n + (∑ e, lam e * bk e) * sc) hex n,
    weight_shift (fun n => x2 (ix2 b n)) (scoreOf lam τ wk sc) _ n]
  rfl

/-- A share is nonnegative. -/
theorem share_nonneg (p : Fin 4096 → BitVec 1) (σ : Fin 4096 → ℝ) (n : Fin 4096) : 0 ≤ share p σ n :=
  div_nonneg (wt_nonneg _ _) (Finset.sum_nonneg fun _ _ => wt_nonneg _ _)

/-- The shares total one where some token is not padded. -/
theorem share_sum (p : Fin 4096 → BitVec 1) (σ : Fin 4096 → ℝ) (h : ∃ n, p n ≠ 1#1) : ∑ n, share p σ n = 1 := by
  unfold share
  rw [← Finset.sum_div, div_self (wt_sum_pos p σ h).ne']

/-- The mean by shares is the softmax mean. -/
theorem share_mean (p : Fin 4096 → BitVec 1) (σ y : Fin 4096 → ℝ) : ∑ n, share p σ n * y n = mean p σ y := by
  unfold share mean
  rw [Finset.sum_div]
  exact Finset.sum_congr rfl fun n _ => by ring

include hlam hτ hwk hbk hwv hsc hex in
/-- The pooled value: the softmax mean of the projected tokens, plus the value bias. -/
theorem pooled_real (e : Fin 512) : val_main_v45 (F := Ideal) x0 x1 x2 x3 x4 x5 x6 x7 x8 x9 (ix3 b l e)
    = ((mean (fun n => x2 (ix2 b n)) (scoreOf lam τ wk sc) (fun n => ∑ d, τ n d * wv d e) : ℝ) : EReal) + x9 (ix1 e) := by
  have hw := weight_real x0 x1 x2 x3 x4 x5 x6 x7 b l lam hlam τ hτ wk hwk bk hbk sc hsc hex
  have hv : ∀ n, val_main_v23 (F := Ideal) x1 x2 x8 x9 (ix3 b n e)
      = (((∑ d, τ n d * wv d e : ℝ) : EReal) + x9 (ix1 e)) * FloatOps.uitofp (F := Ideal) .f32 (~~~x2 (ix2 b n)) := by
    intro n
    rw [value_apply, ← sum_coe]
    exact congrArg (fun z => (z + _) * _) (Finset.sum_congr rfl fun d _ => by rw [hτ, hwv, EReal.coe_mul])
  rw [pooled_apply, ← share_mean, ← weighted_const _ (share_nonneg _ _) (share_sum _ _ hex)]
  refine Finset.sum_congr rfl fun n _ => ?_
  rw [hw, hv]
  by_cases h : x2 (ix2 b n) = 1#1
  · have e0 : share (fun n => x2 (ix2 b n)) (scoreOf lam τ wk sc) n = 0 := by
      simp only [share, wt, if_pos h, zero_div]
    rw [e0, EReal.coe_zero, zero_mul, zero_mul]
  · have e1 : FloatOps.uitofp (F := Ideal) .f32 (~~~x2 (ix2 b n)) = 1 := by
      have hx : x2 (ix2 b n) = 0#1 := by
        revert h
        generalize x2 (ix2 b n) = y
        revert y
        decide
      rw [hx]
      simp [FloatOps.uitofp]
    rw [e1, mul_one]

end Cert.Pooler.Ref
-- ==== Proof.Arrays.lean ====
/- Each block the kernel reads, at an index: an entry of one of @main's arguments. -/
module

public import proofs.«01_k».proof.Proof.State
public import proofs.«01_k».proof.Proof.Block
public import Idealize.ShloMosaic.Lib.Pipeline.ValueKit

@[expose] public section

set_option maxRecDepth 16384

noncomputable section

namespace Cert.Pooler

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- The batch row of a grid point. -/
def rowNo : Fin 16 := ⟨t.val, lt_of_lt_of_eq t.isLt (show cfg0.N = 16 from N_0)⟩

/-- Where each window stands at a grid point: whole arrays at the origin, chunk `k` of the batch row for the tokens, the
    batch row for the mask. -/
theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0, 0, 0] := (by decide +kernel : ∀ t : Fin grid0.N, _)
theorem at9 : ∀ t : Fin cfg0.N, win0_9.index t = ![t.val, 1, 0, 0] := (by decide +kernel : ∀ t : Fin grid0.N, _)
theorem at10 : ∀ t : Fin cfg0.N, win0_10.index t = ![t.val, 2, 0, 0] := (by decide +kernel : ∀ t : Fin grid0.N, _)
theorem at11 : ∀ t : Fin cfg0.N, win0_11.index t = ![t.val, 3, 0, 0] := (by decide +kernel : ∀ t : Fin grid0.N, _)
theorem at12 : ∀ t : Fin cfg0.N, win0_12.index t = ![t.val, 4, 0, 0] := (by decide +kernel : ∀ t : Fin grid0.N, _)
theorem at13 : ∀ t : Fin cfg0.N, win0_13.index t = ![t.val, 5, 0, 0] := (by decide +kernel : ∀ t : Fin grid0.N, _)
theorem at14 : ∀ t : Fin cfg0.N, win0_14.index t = ![t.val, 6, 0, 0] := (by decide +kernel : ∀ t : Fin grid0.N, _)
theorem at15 : ∀ t : Fin cfg0.N, win0_15.index t = ![t.val, 7, 0, 0] := (by decide +kernel : ∀ t : Fin grid0.N, _)
theorem at16 : ∀ t : Fin cfg0.N, win0_16.index t = ![t.val, 0, 0] := (by decide +kernel : ∀ t : Fin grid0.N, _)

/-- The tokens, cut into eight chunks. -/
theorem entry0 (b : Fin 16) (k : Fin 8) (x d : Fin 512) : V m c main_v0 (ix4 b k x d) = m ((c.tc : Thread nD τ).loc main_arg1) (ix3 b (tokenOf k x) d) := by
  change StableHlo.after hostOps0 (fun b => m (c, b)) _ _ = _
  entry_read
  pointwise
  exact congrArg (fun n => m ((c.tc : Thread nD τ).loc main_arg1) (ix3 b n d)) (Fin.ext (congrArg (· + x.val) (Nat.mul_comm k.val 512)))

/-- The mask, with an axis of extent one. -/
theorem entry1 (b : Fin 16) (n : Fin 4096) : V m c main_v1 (ix3 b 0 n) = m ((c.tc : Thread nD τ).loc main_arg2) (ix2 b n) := by
  change StableHlo.after hostOps0 (fun b => m (c, b)) _ _ = _
  entry_read
  pointwise

/-- The query bias, a row. -/
theorem entry2 (e : Fin 512) : V m c main_v2 (ix2 0 e) = m ((c.tc : Thread nD τ).loc main_arg5) (ix1 e) := by
  change StableHlo.after hostOps0 (fun b => m (c, b)) _ _ = _
  entry_read
  pointwise

/-- The value bias, a row. -/
theorem entry3 (e : Fin 512) : V m c main_v3 (ix2 0 e) = m ((c.tc : Thread nD τ).loc main_arg9) (ix1 e) := by
  change StableHlo.after hostOps0 (fun b => m (c, b)) _ _ = _
  entry_read
  pointwise

/-- The norm's weight, a row. -/
theorem entry4 (e : Fin 512) : V m c main_v4 (ix2 0 e) = m ((c.tc : Thread nD τ).loc main_arg10) (ix1 e) := by
  change StableHlo.after hostOps0 (fun b => m (c, b)) _ _ = _
  entry_read
  pointwise

/-- The mask, as a word. -/
theorem entry5 (b : Fin 16) (n : Fin 4096) : V m c main_v5 (ix3 b 0 n) = (m ((c.tc : Thread nD τ).loc main_arg2) (ix2 b n)).setWidth 32 := by
  change StableHlo.after hostOps0 (fun b => m (c, b)) _ _ = _
  entry_read
  pointwise

/-- The query. -/
theorem blk0 (b : Fin 16) (e : Fin 512) : iblk m c 0 t (ix2 b e) = m ((c.tc : Thread nD τ).loc main_arg0) (ix2 b e) := by
  blk_ext! [iblk, V, at0 t, rowNo, tokenOf]

/-- The latents. -/
theorem blk1 (l : Fin 64) (e : Fin 512) : iblk m c 1 t (ix2 l e) = m ((c.tc : Thread nD τ).loc main_arg3) (ix2 l e) := by
  blk_ext! [iblk, V, at1 t, rowNo, tokenOf]

/-- The query projection. -/
theorem blk2 (d e : Fin 512) : iblk m c 2 t (ix2 d e) = m ((c.tc : Thread nD τ).loc main_arg4) (ix2 d e) := by
  blk_ext! [iblk, V, at2 t, rowNo, tokenOf]

/-- The key projection. -/
theorem blk4 (d e : Fin 512) : iblk m c 4 t (ix2 d e) = m ((c.tc : Thread nD τ).loc main_arg6) (ix2 d e) := by
  blk_ext! [iblk, V, at4 t, rowNo, tokenOf]

/-- The value projection. -/
theorem blk5 (d e : Fin 512) : iblk m c 5 t (ix2 d e) = m ((c.tc : Thread nD τ).loc main_arg8) (ix2 d e) := by
  blk_ext! [iblk, V, at5 t, rowNo, tokenOf]

/-- The query bias, a row. -/
theorem blk3 (e : Fin 512) : iblk m c 3 t (ix2 0 e) = m ((c.tc : Thread nD τ).loc main_arg5) (ix1 e) :=
  (show iblk m c 3 t (ix2 0 e) = V m c main_v2 (ix2 0 e) by blk_ext! [iblk, at3 t, rowNo, tokenOf]).trans
    (entry2 m c e)

/-- The value bias, a row. -/
theorem blk6 (e : Fin 512) : iblk m c 6 t (ix2 0 e) = m ((c.tc : Thread nD τ).loc main_arg9) (ix1 e) :=
  (show iblk m c 6 t (ix2 0 e) = V m c main_v3 (ix2 0 e) by blk_ext! [iblk, at6 t, rowNo, tokenOf]).trans
    (entry3 m c e)

/-- The norm's weight, a row. -/
theorem blk7 (e : Fin 512) : iblk m c 7 t (ix2 0 e) = m ((c.tc : Thread nD τ).loc main_arg10) (ix1 e) :=
  (show iblk m c 7 t (ix2 0 e) = V m c main_v4 (ix2 0 e) by blk_ext! [iblk, at7 t, rowNo, tokenOf]).trans
    (entry4 m c e)

/-- A chunk of the batch row's tokens: number 0. -/
theorem blk8 (x d : Fin 512) : iblk m c 8 t (ix4 0 0 x d) = m ((c.tc : Thread nD τ).loc main_arg1) (ix3 (rowNo t) (tokenOf 0 x) d) :=
  (show iblk m c 8 t (ix4 0 0 x d) = V m c main_v0 (ix4 (rowNo t) 0 x d) by blk_ext! [iblk, at8 t, rowNo, tokenOf]).trans
    (entry0 m c (rowNo t) 0 x d)

/-- A chunk of the batch row's tokens: number 1. -/
theorem blk9 (x d : Fin 512) : iblk m c 9 t (ix4 0 0 x d) = m ((c.tc : Thread nD τ).loc main_arg1) (ix3 (rowNo t) (tokenOf 1 x) d) :=
  (show iblk m c 9 t (ix4 0 0 x d) = V m c main_v0 (ix4 (rowNo t) 1 x d) by blk_ext! [iblk, at9 t, rowNo, tokenOf]).trans
    (entry0 m c (rowNo t) 1 x d)

/-- A chunk of the batch row's tokens: number 2. -/
theorem blk10 (x d : Fin 512) : iblk m c 10 t (ix4 0 0 x d) = m ((c.tc : Thread nD τ).loc main_arg1) (ix3 (rowNo t) (tokenOf 2 x) d) :=
  (show iblk m c 10 t (ix4 0 0 x d) = V m c main_v0 (ix4 (rowNo t) 2 x d) by blk_ext! [iblk, at10 t, rowNo, tokenOf]).trans
    (entry0 m c (rowNo t) 2 x d)

/-- A chunk of the batch row's tokens: number 3. -/
theorem blk11 (x d : Fin 512) : iblk m c 11 t (ix4 0 0 x d) = m ((c.tc : Thread nD τ).loc main_arg1) (ix3 (rowNo t) (tokenOf 3 x) d) :=
  (show iblk m c 11 t (ix4 0 0 x d) = V m c main_v0 (ix4 (rowNo t) 3 x d) by blk_ext! [iblk, at11 t, rowNo, tokenOf]).trans
    (entry0 m c (rowNo t) 3 x d)

/-- A chunk of the batch row's tokens: number 4. -/
theorem blk12 (x d : Fin 512) : iblk m c 12 t (ix4 0 0 x d) = m ((c.tc : Thread nD τ).loc main_arg1) (ix3 (rowNo t) (tokenOf 4 x) d) :=
  (show iblk m c 12 t (ix4 0 0 x d) = V m c main_v0 (ix4 (rowNo t) 4 x d) by blk_ext! [iblk, at12 t, rowNo, tokenOf]).trans
    (entry0 m c (rowNo t) 4 x d)

/-- A chunk of the batch row's tokens: number 5. -/
theorem blk13 (x d : Fin 512) : iblk m c 13 t (ix4 0 0 x d) = m ((c.tc : Thread nD τ).loc main_arg1) (ix3 (rowNo t) (tokenOf 5 x) d) :=
  (show iblk m c 13 t (ix4 0 0 x d) = V m c main_v0 (ix4 (rowNo t) 5 x d) by blk_ext! [iblk, at13 t, rowNo, tokenOf]).trans
    (entry0 m c (rowNo t) 5 x d)

/-- A chunk of the batch row's tokens: number 6. -/
theorem blk14 (x d : Fin 512) : iblk m c 14 t (ix4 0 0 x d) = m ((c.tc : Thread nD τ).loc main_arg1) (ix3 (rowNo t) (tokenOf 6 x) d) :=
  (show iblk m c 14 t (ix4 0 0 x d) = V m c main_v0 (ix4 (rowNo t) 6 x d) by blk_ext! [iblk, at14 t, rowNo, tokenOf]).trans
    (entry0 m c (rowNo t) 6 x d)

/-- A chunk of the batch row's tokens: number 7. -/
theorem blk15 (x d : Fin 512) : iblk m c 15 t (ix4 0 0 x d) = m ((c.tc : Thread nD τ).loc main_arg1) (ix3 (rowNo t) (tokenOf 7 x) d) :=
  (show iblk m c 15 t (ix4 0 0 x d) = V m c main_v0 (ix4 (rowNo t) 7 x d) by blk_ext! [iblk, at15 t, rowNo, tokenOf]).trans
    (entry0 m c (rowNo t) 7 x d)

/-- The batch row's mask, as a word. -/
theorem blk16 (n : Fin 4096) : iblk m c 16 t (ix3 0 0 n) = (m ((c.tc : Thread nD τ).loc main_arg2) (ix2 (rowNo t) n)).setWidth 32 :=
  (show iblk m c 16 t (ix3 0 0 n) = V m c main_v5 (ix3 (rowNo t) 0 n) by blk_ext! [iblk, at16 t, rowNo, tokenOf]).trans
    (entry5 m c (rowNo t) n)

end Cert.Pooler
-- ==== Proof.KernelValue.lean ====
/- The arrays the kernel builds, at an index, over @main's arguments. -/
module

public import proofs.«01_k».proof.Proof.Arrays
public import proofs.«01_k».proof.Proof.Launch
public import proofs.«01_k».proof.Proof.Finite
public import Idealize.ShloMosaic.Lib.Pointwise

@[expose] public section

set_option maxRecDepth 16384

noncomputable section

namespace Cert.Pooler

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The query: argument 0 of @main. -/
abbrev A0 : Vec Ideal S16x512 .f32 := m ((c.tc : Thread nD τ).loc main_arg0)
/-- The tokens: argument 1 of @main. -/
abbrev A1 : Vec Ideal S16x4096x512 .f32 := m ((c.tc : Thread nD τ).loc main_arg1)
/-- The mask: argument 2 of @main. -/
abbrev A2 : Vec Ideal S16x4096 .i1 := m ((c.tc : Thread nD τ).loc main_arg2)
/-- The latents: argument 3 of @main. -/
abbrev A3 : Vec Ideal S64x512 .f32 := m ((c.tc : Thread nD τ).loc main_arg3)
/-- The query projection: argument 4 of @main. -/
abbrev A4 : Vec Ideal S512x512 .f32 := m ((c.tc : Thread nD τ).loc main_arg4)
/-- The query bias: argument 5 of @main. -/
abbrev A5 : Vec Ideal S512 .f32 := m ((c.tc : Thread nD τ).loc main_arg5)
/-- The key projection: argument 6 of @main. -/
abbrev A6 : Vec Ideal S512x512 .f32 := m ((c.tc : Thread nD τ).loc main_arg6)
/-- The key bias: argument 7 of @main. -/
abbrev A7 : Vec Ideal S512 .f32 := m ((c.tc : Thread nD τ).loc main_arg7)
/-- The value projection: argument 8 of @main. -/
abbrev A8 : Vec Ideal S512x512 .f32 := m ((c.tc : Thread nD τ).loc main_arg8)
/-- The value bias: argument 9 of @main. -/
abbrev A9 : Vec Ideal S512 .f32 := m ((c.tc : Thread nD τ).loc main_arg9)
/-- The norm's weight: argument 10 of @main. -/
abbrev A10 : Vec Ideal S512 .f32 := m ((c.tc : Thread nD τ).loc main_arg10)

/-- A row of the arrays that hold all batch rows' latents: latent `l` of batch row `b`. -/
def row (b : Fin 16) (l : Fin 64) : Fin 1024 := ⟨b.val * 64 + l.val, by omega⟩

/-- The batch row of such a row. -/
theorem row_div (b : Fin 16) (l : Fin 64) : (row b l).val / 64 = b.val := by simp only [row]; omega
/-- Its latent. -/
theorem row_mod (b : Fin 16) (l : Fin 64) : (row b l).val % 64 = l.val := by simp only [row]; omega

/-- Grid point `b` works on batch row `b`. -/
theorem rowNo_pt (b : Fin 16) : rowNo (pt b.val) = b := Fin.ext (Nat.mod_eq_of_lt b.isLt)

/-- A bit, widened and compared with zero, is the bit. -/
theorem bit_ne (x : BitVec 1) : IntOp.cmpi .ne (x.setWidth 32) 0#32 = x := by
  revert x; decide

/-- The padding flags of a batch row are its mask. -/
theorem flag_at (t : Fin cfg0.N) (n : Fin 4096) :
    flags m c t (ix2 0 n) = A2 m c (ix2 (rowNo t) n) := by
  have h : ∀ x : Vec Ideal S1x1x4096 .i32, k0_pay8 (F := Ideal) x (ix2 0 n) = IntOp.cmpi .ne (x (ix3 0 0 n)) 0#32 := by
    intro x
    pointwise [k0_pay8]
  unfold flags
  rw [h, blk16, bit_ne]

/-- The folded queries. -/
theorem query_at (b : Fin 16) (l : Fin 64) (d : Fin 512) : queries m c (pt 0) (ix2 (row b l) d)
    = ∑ x, (A3 m c (ix2 l x) + ∑ y, A0 m c (ix2 b y)
        * A4 m c (ix2 y x) + A5 m c (ix1 x))
        * Ideal.ofBits .f32 0x3D3504F3#32 * A6 m c (ix2 d x) := by
  have h : ∀ x0 x2 x1 x3 x4, k0_pay7 (F := Ideal) x0 x2 x1 x3 x4 (ix2 (row b l) d)
      = ∑ x, (x1 (ix2 l x) + ∑ y, x0 (ix2 b y) * x2 (ix2 y x) + x3 (ix2 0 x)) * Ideal.ofBits .f32 0x3D3504F3#32
          * x4 (ix2 d x) := by
    intro x0 x2 x1 x3 x4
    have e1 : (⟨(row b l).val / 64, by omega⟩ : Fin 16) = b := Fin.ext (row_div b l)
    have e2 : (⟨(row b l).val % 64, by omega⟩ : Fin 64) = l := Fin.ext (row_mod b l)
    pointwise [k0_pay7]
    simp only [e1, e2]
  unfold queries
  rw [h]
  simp only [blk0, blk1, blk2, blk3, blk4]

/-- A grid point's rows of the folded queries. -/
theorem rows_at (b : Fin 16) (x : Vec Ideal S1024x512 .f32) (l : Fin 64) (d : Fin 512) :
    rowsOf (grid0.coords (pt b.val)) x (ix2 l d) = x (ix2 (row b l) d) := by
  have hc : (grid0.coords (pt b.val) 0).val = b.val := coord_pt b.isLt
  pointwise [rowsOf]
  refine congrArg x (congrArg₂ ix2 (Fin.ext ?_) (Fin.ext ?_))
  · show k0_off1 (grid0.coords (pt b.val)) 0 + l.val = b.val * 64 + l.val
    rw [k0_off1_eq, hc]
    show 64 * b.val + l.val = _
    omega
  · show k0_off1 (grid0.coords (pt b.val)) 1 + d.val = d.val
    rw [k0_off1_eq]
    exact Nat.zero_add _

/-- The batch row's tokens, chunk by chunk. -/
def chunkOf (b : Fin 16) (k : Fin 8) : FVec Ideal S512x512 .f32 := match k with
  | 0 => k0_pay9 (iblk m c 8 (pt b.val))
  | 1 => k0_pay10 (iblk m c 9 (pt b.val))
  | 2 => k0_pay11 (iblk m c 10 (pt b.val))
  | 3 => k0_pay12 (iblk m c 11 (pt b.val))
  | 4 => k0_pay13 (iblk m c 12 (pt b.val))
  | 5 => k0_pay14 (iblk m c 13 (pt b.val))
  | 6 => k0_pay15 (iblk m c 14 (pt b.val))
  | 7 => k0_pay16 (iblk m c 15 (pt b.val))

/-- A chunk of a batch row's tokens holds the tokens with the chunk's numbers. -/
theorem chunk_at (b : Fin 16) (k : Fin 8) (x d : Fin 512) :
    chunkOf m c b k (ix2 x d) = A1 m c (ix3 b (tokenOf k x) d) := by
  have hb := rowNo_pt b
  have h0 : ∀ y : Vec Ideal S1x1x512x512 .f32, k0_pay9 (F := Ideal) y (ix2 x d) = y (ix4 0 0 x d) := by
    intro y
    pointwise [k0_pay9]
  have h1 : ∀ y : Vec Ideal S1x1x512x512 .f32, k0_pay10 (F := Ideal) y (ix2 x d) = y (ix4 0 0 x d) := by
    intro y
    pointwise [k0_pay10]
  have h2 : ∀ y : Vec Ideal S1x1x512x512 .f32, k0_pay11 (F := Ideal) y (ix2 x d) = y (ix4 0 0 x d) := by
    intro y
    pointwise [k0_pay11]
  have h3 : ∀ y : Vec Ideal S1x1x512x512 .f32, k0_pay12 (F := Ideal) y (ix2 x d) = y (ix4 0 0 x d) := by
    intro y
    pointwise [k0_pay12]
  have h4 : ∀ y : Vec Ideal S1x1x512x512 .f32, k0_pay13 (F := Ideal) y (ix2 x d) = y (ix4 0 0 x d) := by
    intro y
    pointwise [k0_pay13]
  have h5 : ∀ y : Vec Ideal S1x1x512x512 .f32, k0_pay14 (F := Ideal) y (ix2 x d) = y (ix4 0 0 x d) := by
    intro y
    pointwise [k0_pay14]
  have h6 : ∀ y : Vec Ideal S1x1x512x512 .f32, k0_pay15 (F := Ideal) y (ix2 x d) = y (ix4 0 0 x d) := by
    intro y
    pointwise [k0_pay15]
  have h7 : ∀ y : Vec Ideal S1x1x512x512 .f32, k0_pay16 (F := Ideal) y (ix2 x d) = y (ix4 0 0 x d) := by
    intro y
    pointwise [k0_pay16]
  match k with
  | 0 => dsimp only [chunkOf]; rw [h0, blk8, hb]
  | 1 => dsimp only [chunkOf]; rw [h1, blk9, hb]
  | 2 => dsimp only [chunkOf]; rw [h2, blk10, hb]
  | 3 => dsimp only [chunkOf]; rw [h3, blk11, hb]
  | 4 => dsimp only [chunkOf]; rw [h4, blk12, hb]
  | 5 => dsimp only [chunkOf]; rw [h5, blk13, hb]
  | 6 => dsimp only [chunkOf]; rw [h6, blk14, hb]
  | 7 => dsimp only [chunkOf]; rw [h7, blk15, hb]

/-- The pooled rows: each batch row's, from its own queries, mask and tokens. -/
theorem pooled_at (b : Fin 16) (l : Fin 64) (d : Fin 512) : pooled m c (ix2 (row b l) d)
    = pool (rowsOf (grid0.coords (pt b.val)) (queries m c (pt 0))) (flags m c (pt b.val)) (chunkOf m c b 0)
        (chunkOf m c b 1) (chunkOf m c b 2) (chunkOf m c b 3) (chunkOf m c b 4) (chunkOf m c b 5) (chunkOf m c b 6)
        (chunkOf m c b 7) (ix2 l d) := by
  have h : ∀ (k : ℕ) (hk : k < 64) (n : ℕ), n = b.val → k = l.val →
      pooledOf m c (pt n) (rowsOf (grid0.coords (pt n)) (queries m c (pt 0))) (ValueIdx.ix2 ⟨k, hk⟩ d)
      = pool (rowsOf (grid0.coords (pt b.val)) (queries m c (pt 0))) (flags m c (pt b.val)) (chunkOf m c b 0)
        (chunkOf m c b 1) (chunkOf m c b 2) (chunkOf m c b 3) (chunkOf m c b 4) (chunkOf m c b 5) (chunkOf m c b 6)
        (chunkOf m c b 7) (ix2 l d) := by
    rintro _ _ _ rfl rfl
    rfl
  exact h _ _ _ (row_div b l) (row_mod b l)

/-- The validity column: one less the least of the row's flags. -/
theorem valid_at (b : Fin 16) : valids m c (ix2 b 0)
    = 1 - Finset.fold min (Ideal.ofBits .f32 0x7F800000#32) (fun n => Scalar.select (A2 m c (ix2 b n)) (1 : EReal) 0)
        Finset.univ := by
  have h : ∀ x : IVec S1x4096 1, k0_pay1 (F := Ideal) (k0_pay53 x) (ix2 0 0)
      = 1 - Finset.fold min (Ideal.ofBits .f32 0x7F800000#32) (fun n => Scalar.select (x (ix2 0 n)) (1 : EReal) 0)
          Finset.univ := by
    intro x
    pointwise [k0_pay1, k0_pay53]
  have e : valids m c (ix2 b 0) = k0_pay1 (F := Ideal) (k0_pay53 (flags m c (pt b.val))) (ix2 0 0) := rfl
  rw [e, h]
  simp only [flag_at, rowNo_pt]

/-- The first result, over the pooled rows and the validity column. -/
theorem out_at (b : Fin 16) (l : Fin 64) (d : Fin 512) (o : Fin 512 → EReal)
    (ho : ∀ k, o k = ∑ x, pooled m c (ix2 (row b l) x) * A8 m c (ix2 x k) + A9 m c (ix1 k)) :
    outBlock m c (ix3 b l d)
    = o d * Ideal.rsqrt (Ideal.div (∑ k, o k * o k) (Ideal.ofBits .f32 0x44000000#32) + Ideal.ofBits .f32 0x358637BD#32)
        * A10 m c (ix1 d) * if 0 < valids m c (ix2 b 0) then 1 else 0 := by
  have h : ∀ x0 x2 x1 x3 x4, k0_pay3 (F := Ideal) x0 x2 x1 x3 x4 (ix3 b l d)
      = (∑ x, x0 (ix2 (row b l) x) * x2 (ix2 x d) + x1 (ix2 0 d))
        * Ideal.rsqrt (Ideal.div (∑ k, (∑ x, x0 (ix2 (row b l) x) * x2 (ix2 x k) + x1 (ix2 0 k))
            * (∑ x, x0 (ix2 (row b l) x) * x2 (ix2 x k) + x1 (ix2 0 k))) (Ideal.ofBits .f32 0x44000000#32)
          + Ideal.ofBits .f32 0x358637BD#32) * x3 (ix2 0 d) * if 0 < x4 (ix2 b 0) then 1 else 0 := by
    intro x0 x2 x1 x3 x4
    pointwise [k0_pay3, row]
  unfold outBlock
  rw [h]
  simp only [blk5, blk6, blk7, ho]

/-- The second result, over the validity column. -/
theorem mask_at (b : Fin 16) (l : Fin 64) :
    maskBlock m c (ix2 b l) = if 0 < valids m c (ix2 b 0) then 0 else 1 := by
  have h : ∀ x : Vec Ideal S16x1 .f32, k0_pay2 (F := Ideal) (k0_pay4 x) k0_pay5 k0_pay6 (ix2 b l)
      = if 0 < x (ix2 b 0) then 0 else 1 := by
    intro x
    pointwise [k0_pay2, k0_pay4, k0_pay5, k0_pay6]
  exact h _

/-- If every bit is set, the least of the flags is one. -/
theorem least_flag (x : Fin 4096 → BitVec 1) (hx : ∀ n, x n = 1#1) :
    Finset.fold min (Ideal.ofBits .f32 0x7F800000#32) (fun n => Scalar.select (x n) (1 : EReal) 0) Finset.univ = 1 := by
  refine le_antisymm ?_ ?_
  · refine (Finset.fold_min_le _).mpr (Or.inr ⟨0, Finset.mem_univ _, ?_⟩)
    rw [hx 0]
    exact le_rfl
  · refine (Finset.le_fold_min _).mpr ⟨?_, fun n _ => ?_⟩
    · rw [ofBits_top]
      exact le_top
    · rw [hx n]
      exact le_rfl

/-- If some bit is clear, the least of the flags is zero. -/
theorem least_flag_open (x : Fin 4096 → BitVec 1) (hx : ∃ n, x n ≠ 1#1) :
    Finset.fold min (Ideal.ofBits .f32 0x7F800000#32) (fun n => Scalar.select (x n) (1 : EReal) 0) Finset.univ = 0 := by
  obtain ⟨n, hn⟩ := hx
  refine le_antisymm ?_ ?_
  · refine (Finset.fold_min_le _).mpr (Or.inr ⟨n, Finset.mem_univ _, ?_⟩)
    rw [Scalar.select, if_neg (show ¬ x n = 1 from hn)]
  · refine (Finset.le_fold_min _).mpr ⟨?_, fun k _ => ?_⟩
    · rw [ofBits_top]
      exact le_top
    · rw [Scalar.select]
      split
      · exact zero_le_one
      · exact le_rfl

/-- A batch row with every token padded isn't valid. -/
theorem not_valid (b : Fin 16) (h : ∀ n, A2 m c (ix2 b n) = 1#1) : ¬ 0 < valids m c (ix2 b 0) := by
  rw [valid_at, least_flag _ h]
  have e : (1 : EReal) - 1 = 0 := by
    have := EReal.coe_sub 1 1
    simpa using this.symm
  rw [e]
  exact lt_irrefl _

/-- A batch row with a token that isn't padded is. -/
theorem is_valid (b : Fin 16) (h : ∃ n, A2 m c (ix2 b n) ≠ 1#1) : 0 < valids m c (ix2 b 0) := by
  rw [valid_at, least_flag_open _ h, sub_zero]
  exact zero_lt_one

end Cert.Pooler
-- ==== Proof.Equation.lean ====
/- The kernel's results are the reference's, at arguments whose unpadded entries are reals. -/
module

public import proofs.«01_k».proof.Proof.RefMean
public import proofs.«01_k».proof.Proof.KernelValue

@[expose] public section

set_option maxRecDepth 16384

noncomputable section

namespace Cert.Pooler

open Cert.KernelIdeal Cert.KernelIdeal.Gen Cert.Pooler.Ref
open Idealize.ShloMosaic Idealize.ShloMosaic.TcCoe Idealize.SL.Sem
open Cert.ReferenceIdeal.Read (val_main_v4 val_main_v13 val_main_v27 val_main_v45 val_main_v63 val_main_v64)

variable (m : (ℓ : Loc nD τ sig) → Buf (Elt Ideal) ℓ) (c : Dev nD)

/-- The arguments the result depends on are reals: everything but the padded tokens, the value bias and the norm's weight. -/
abbrev Reals : Prop :=
  (∀ i, ∃ r : ℝ, A0 m c i = (r : EReal)) ∧ (∀ b n d, A2 m c (ix2 b n) ≠ 1#1 → ∃ r : ℝ, A1 m c (ix3 b n d) = (r : EReal))
    ∧ (∀ i, ∃ r : ℝ, A3 m c i = (r : EReal)) ∧ (∀ i, ∃ r : ℝ, A4 m c i = (r : EReal)) ∧ (∀ i, ∃ r : ℝ, A5 m c i = (r : EReal))
    ∧ (∀ i, ∃ r : ℝ, A6 m c i = (r : EReal)) ∧ (∀ i, ∃ r : ℝ, A7 m c i = (r : EReal)) ∧ (∀ i, ∃ r : ℝ, A8 m c i = (r : EReal))

/-- The score's scale is a real. -/
theorem scale_real : ∃ r : ℝ, Ideal.ofBits .f32 0x3D3504F3#32 = (r : EReal) := by
  refine ⟨11863283 * (2 ^ 28)⁻¹, ?_⟩
  simp [Ideal.ofBits, Ideal.ieee]

/-- The masked tokens of a batch row are reals. -/
theorem tokens_real (h : ∀ b n d, A2 m c (ix2 b n) ≠ 1#1 → ∃ r : ℝ, A1 m c (ix3 b n d) = (r : EReal)) (b : Fin 16) :
    ∃ t : Fin 4096 → Fin 512 → ℝ, (∀ n d, val_main_v4 (F := Ideal) (A1 m c) (A2 m c) (ix3 b n d) = (t n d : EReal))
      ∧ ∀ n d, A2 m c (ix2 b n) ≠ 1#1 → A1 m c (ix3 b n d) = (t n d : EReal) := by
  have step : ∀ n d, ∃ r : ℝ, val_main_v4 (F := Ideal) (A1 m c) (A2 m c) (ix3 b n d) = (r : EReal)
      ∧ (A2 m c (ix2 b n) ≠ 1#1 → A1 m c (ix3 b n d) = (r : EReal)) := by
    intro n d
    rw [tokens_apply]
    by_cases hp : A2 m c (ix2 b n) = 1#1
    · refine ⟨0, ?_, fun h' => absurd hp h'⟩
      rw [hp]
      have e : FloatOps.uitofp (F := Ideal) .f32 (~~~1#1) = 0 := by simp [FloatOps.uitofp]
      rw [e, mul_zero, EReal.coe_zero]
    · obtain ⟨r, hr⟩ := h b n d hp
      refine ⟨r, ?_, fun _ => hr⟩
      have e : FloatOps.uitofp (F := Ideal) .f32 (~~~A2 m c (ix2 b n)) = 1 := by
        have hx : A2 m c (ix2 b n) = 0#1 := by
          revert hp
          generalize A2 m c (ix2 b n) = y
          revert y
          decide
        rw [hx]
        simp [FloatOps.uitofp]
      rw [e, mul_one, hr]
  choose t ht using step
  exact ⟨t, fun n d => (ht n d).1, fun n d => (ht n d).2⟩

/-- In a batch row with an unpadded token, projecting the kernel's pooled tokens gives the reference's pooled values. -/
theorem attended (h : Reals m c) (b : Fin 16) (l : Fin 64) (hex : ∃ n, A2 m c (ix2 b n) ≠ 1#1) (k : Fin 512) :
    val_main_v45 (F := Ideal) (A0 m c) (A1 m c) (A2 m c) (A3 m c) (A4 m c) (A5 m c) (A6 m c) (A7 m c) (A8 m c) (A9 m c)
        (ix3 b l k)
      = ∑ x, pooled m c (ix2 (row b l) x) * A8 m c (ix2 x k) + A9 m c (ix1 k) := by
  obtain ⟨h0, h1, h3, h4, h5, h6, h7, h8⟩ := h
  obtain ⟨sc, hsc⟩ := scale_real
  obtain ⟨t, ht, ht'⟩ := tokens_real m c h1 b
  choose q0 hq0 using h0
  choose q3 hq3 using h3
  choose q4 hq4 using h4
  choose q5 hq5 using h5
  choose q6 hq6 using h6
  choose q7 hq7 using h7
  choose q8 hq8 using h8
  let lam : Fin 512 → ℝ := fun e => q3 (ix2 l e) + (∑ x, q0 (ix2 b x) * q4 (ix2 x e) + q5 (ix1 e))
  let wk : Fin 512 → Fin 512 → ℝ := fun d e => q6 (ix2 d e)
  let wv : Fin 512 → Fin 512 → ℝ := fun d e => q8 (ix2 d e)
  have hproj : ∀ e, ∑ x, A0 m c (ix2 b x) * A4 m c (ix2 x e) = ((∑ x, q0 (ix2 b x) * q4 (ix2 x e) : ℝ) : EReal) := by
    intro e
    rw [← sum_coe]
    exact Finset.sum_congr rfl fun x _ => by rw [hq0, hq4, EReal.coe_mul]
  have hlam : ∀ e, A3 m c (ix2 l e) + (∑ x, A0 m c (ix2 b x) * A4 m c (ix2 x e) + A5 m c (ix1 e)) = (lam e : EReal) := by
    intro e
    rw [hproj, hq3, hq5]
    simp only [lam, EReal.coe_add]
  have hq : ∀ d, rowsOf (grid0.coords (pt b.val)) (queries m c (pt 0)) (ix2 l d) = (folded lam wk sc d : EReal) := by
    intro d
    rw [rows_at, query_at, folded, ← sum_coe]
    refine Finset.sum_congr rfl fun e _ => ?_
    rw [add_assoc, hlam, hsc, hq6, EReal.coe_mul, EReal.coe_mul]
  have hp : ∀ n, flags m c (pt b.val) (ix2 0 n) = A2 m c (ix2 b n) := fun n => by rw [flag_at, rowNo_pt]
  have hpool : ∀ x, pooled m c (ix2 (row b l) x)
      = ((mean (fun n => A2 m c (ix2 b n)) (scoreOf lam t wk sc) (fun n => t n x) : ℝ) : EReal) := by
    intro x
    rw [pooled_at, pool_mean _ _ (chunkOf m c b) l x (folded lam wk sc) hq t
      (fun k n hn d => (chunk_at m c b k n d).trans (ht' _ d (by rw [← hp]; exact hn)))
      (by simpa only [hp] using hex)]
    simp only [hp]
    rfl
  rw [pooled_real (A0 m c) (A1 m c) (A2 m c) (A3 m c) (A4 m c) (A5 m c) (A6 m c) (A7 m c) (A8 m c) (A9 m c) b l lam
    (fun e => (query_apply _ _ _ _ b l e).trans (hlam e)) t ht wk (fun d e => hq6 _) (fun e => q7 (ix1 e)) (fun e => hq7 _)
    wv (fun d e => hq8 _) sc hsc hex k]
  refine congrArg (· + _) ?_
  have e : ∀ x, pooled m c (ix2 (row b l) x) * A8 m c (ix2 x k)
      = ((mean (fun n => A2 m c (ix2 b n)) (scoreOf lam t wk sc) (fun n => t n x) * wv x k : ℝ) : EReal) := fun x => by
    rw [hpool, hq8, EReal.coe_mul]
  rw [Finset.sum_congr rfl fun x _ => e x, sum_coe]
  refine congrArg _ ?_
  simp only [← share_mean, Finset.mul_sum, Finset.sum_mul]
  rw [Finset.sum_comm]
  exact Finset.sum_congr rfl fun x _ => Finset.sum_congr rfl fun n _ => by ring

/-- The kernel's first result is the reference's. -/
theorem first_result (h : Reals m c) : outBlock m c
    = val_main_v63 (F := Ideal) (A0 m c) (A1 m c) (A2 m c) (A3 m c) (A4 m c) (A5 m c) (A6 m c) (A7 m c) (A8 m c) (A9 m c)
        (A10 m c) := by
  suffices key : ∀ (b : Fin 16) (l : Fin 64) (d : Fin 512), outBlock m c (ix3 b l d)
      = val_main_v63 (F := Ideal) (A0 m c) (A1 m c) (A2 m c) (A3 m c) (A4 m c) (A5 m c) (A6 m c) (A7 m c) (A8 m c)
          (A9 m c) (A10 m c) (ix3 b l d) from
    funext fun y => by rw [eq_ix3 y]; exact key (y 0) (y 1) (y 2)
  intro b l d
  rw [out_at m c b l d _ fun k => rfl, result_apply]
  by_cases hp : ∀ n, A2 m c (ix2 b n) = 1#1
  · rw [if_neg (not_valid m c b hp), mul_zero, (allPad_iff (A2 m c) b).mpr hp]
    have e : FloatOps.uitofp (F := Ideal) .f32 (~~~1#1) = 0 := by simp [FloatOps.uitofp]
    rw [e, mul_zero]
  · have hex := not_forall.mp hp
    have hnot : val_main_v27 (F := Ideal) (A2 m c) (ix1 b) = 0#1 := by
      have h' : val_main_v27 (F := Ideal) (A2 m c) (ix1 b) ≠ 1#1 := fun h' => hp ((allPad_iff _ b).mp h')
      revert h'
      generalize val_main_v27 (F := Ideal) (A2 m c) (ix1 b) = z
      revert z
      decide
    have e : FloatOps.uitofp (F := Ideal) .f32 (~~~0#1) = 1 := by simp [FloatOps.uitofp]
    rw [if_pos (is_valid m c b hex), hnot, e]
    simp only [attended m c h b l hex]

/-- The kernel's second result is the reference's. -/
theorem second_result :
    cmpf .une (maskBlock m c) (broadcastInDim S16x64 ![] bcast_S_S16x64 (constant S_ FTy.f32 0#32))
      = val_main_v64 (F := Ideal) (A2 m c) := by
  suffices key : ∀ (b : Fin 16) (l : Fin 64),
      cmpf .une (maskBlock m c) (broadcastInDim S16x64 ![] bcast_S_S16x64 (constant S_ FTy.f32 0#32)) (ix2 b l)
        = val_main_v64 (F := Ideal) (A2 m c) (ix2 b l) from
    funext fun y => by rw [eq_ix2 y]; exact key (y 0) (y 1)
  intro b l
  rw [flag_apply]
  have hc : ∀ x : FVec Ideal S16x64 .f32,
      cmpf .une x (broadcastInDim S16x64 ![] bcast_S_S16x64 (constant S_ FTy.f32 0#32)) (ix2 b l)
        = if x (ix2 b l) = 0 then 0#1 else 1#1 := by
    intro x
    pointwise
    by_cases hx : x (ix2 b l) = 0 <;> simp [hx]
  rw [hc, mask_at]
  by_cases hp : ∀ n, A2 m c (ix2 b n) = 1#1
  · rw [if_neg (not_valid m c b hp), if_neg one_ne_zero, (allPad_iff (A2 m c) b).mpr hp]
  · have h' : val_main_v27 (F := Ideal) (A2 m c) (ix1 b) ≠ 1#1 := fun h' => hp ((allPad_iff _ b).mp h')
    rw [if_pos (is_valid m c b (not_forall.mp hp)), if_pos rfl]
    revert h'
    generalize val_main_v27 (F := Ideal) (A2 m c) (ix1 b) = z
    revert z
    decide

end Cert.Pooler
-- ==== Proof.Algebraic.lean ====
/- The kernel and the reference, run on the same arguments, end with the same results. -/
module

public import proofs.«01_k».proof.Proof.Values
public import proofs.«01_k».proof.Proof.Equation
public import proofs.«01_k».proof.Defs

@[expose] public section

set_option maxRecDepth 16384

noncomputable section

namespace Cert.Pooler

open Idealize.ShloMosaic Idealize.ShloMosaic.TcCoe Idealize.SL.Sem
open Cert.ReferenceIdeal.Read (val_main_v63 val_main_v64 val_main_v63_eq val_main_v64_eq)

/-- The precondition makes the arguments the result depends on reals. -/
theorem reals_of (m : (ℓ : Loc Cert.KernelIdeal.nD Cert.KernelIdeal.τ Cert.KernelIdeal.sig) → Buf (Elt Ideal) ℓ)
    (h : Pre_KernelIdeal_unpadded_finite (hPre_unpadded_finite := pre_facts) m) (c : Dev Cert.KernelIdeal.nD) : Reals m c :=
  haveI := pre_facts
  reals_of_pre (A0 m c) (A1 m c) (A2 m c) (A3 m c) (A4 m c) (A5 m c) (A6 m c) (A7 m c) (A8 m c) (A9 m c) (A10 m c) (h c)

/-- The value claim: from memories that agree on the arguments, the kernel and the reference end with the same two
    results. -/
theorem same_results : algebraic_KernelIdeal_ReferenceIdeal_pre_unpadded_finite (hKernelIdeal := Cert.KernelIdeal.Gen.facts)
    (hReferenceIdeal := Cert.ReferenceIdeal.Gen.facts) (hPre_unpadded_finite := pre_facts) := by
  intro m g m' g' hpre hargs
  refine ⟨fun c => val_main_v63 (F := Ideal) (A0 m c) (A1 m c) (A2 m c) (A3 m c) (A4 m c) (A5 m c) (A6 m c) (A7 m c) (A8 m c) (A9 m c) (A10 m c),
    fun c => val_main_v64 (F := Ideal) (A2 m c), ?_, ?_⟩
  · exact (θ_run _ _ _).mono (fun r h c => ⟨(h c).1.trans (first_result m c (reals_of m hpre c)),
      (h c).2.1.trans (second_result m c), (h c).2.2⟩) (kernel_values m g)
  · refine (θ_run _ _ _).mono (fun r h c => ⟨(h c).1.trans ?_, (h c).2.1.trans ?_, (h c).2.2⟩)
      (Cert.ReferenceIdeal.Value.run (F := Ideal) m' g')
    · obtain ⟨e0, e1, e2, e3, e4, e5, e6, e7, e8, e9, e10⟩ := hargs c
      rw [val_main_v63_eq, e0, e1, e2, e3, e4, e5, e6, e7, e8, e9, e10]
    · obtain ⟨-, -, e2, -⟩ := hargs c
      rw [val_main_v64_eq, e2]

end Cert.Pooler
-- ==== Proof.lean ====
/- Every claim of this certificate, from the modules that prove them: the frames of the three programs, the named
   constant, and the equation of the two programs' results. -/
module

public import proofs.«01_k».proof.Defs
public import proofs.«01_k».proof.Proof.Frames
public import proofs.«01_k».proof.Proof.Transport
public import proofs.«01_k».proof.Proof.RefFrame
public import proofs.«01_k».proof.Proof.Algebraic

@[expose] public section

noncomputable section

namespace Cert.Proof

open Idealize.ShloMosaic Idealize.SL.Sem

/-- The certificate's claim, from the theorems of its modules. -/
theorem claim : Cert.Claim :=
  ⟨Cert.Kernel.Gen.facts, Cert.KernelIdeal.Gen.facts, Cert.ReferenceIdeal.Gen.facts, Cert.Pooler.pre_facts,
    fun m g _ => Cert.Pooler.printed_frame m g,
    fun m g _ => Cert.Pooler.kernel_frame (F := Ideal) m g,
    fun m g _ => Cert.Pooler.kernel_frame (F := Ideal) m g,
    fun m g _ => Cert.Pooler.reference_frame (F := Ideal) m g,
    fun m g _ => Cert.Pooler.reference_frame (F := Ideal) m g,
    IdealRules.named_const.statement Cert.KernelIdeal.κ "mask" .f32 0xFF61B1E6#32 ⊥ rfl,
    Cert.Pooler.same_results⟩

end Cert.Proof

end
